-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v1_0)) (v1 : (c : Dev Cert.PrepIdeal.nD) → Buf (Elt Ideal) ((c.tc : Thread Cert.PrepIdeal.nD Cert.PrepIdeal.τ).loc Cert.PrepIdeal.main_v1_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1_0) = v0 c
          ∧ r.2.mem ((c.tc : Thread Cert.PrepIdeal.nD Cert.PrepIdeal.τ).loc Cert.PrepIdeal.main_v1_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v1) = v0 c
          ∧ r.2.mem ((c.tc : Thread Cert.PrepRefIdeal.nD Cert.PrepRefIdeal.τ).loc Cert.PrepRefIdeal.main_v5) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_GateUp_GateUpIdeal : Prop :=
  IdealRules.bf16_pair.BufferStatement Cert.GateUpIdeal.S128x2x1024 Cert.GateUpIdeal.S128x1x1024
  ∧ IdealRules.bf16_pair.HalfStatement Cert.GateUpIdeal.S128x256
  ∧ IdealRules.bf16_pair.Statement Cert.GateUpIdeal.S128x2x256 Cert.GateUpIdeal.S128x1x256
  ∧ IdealRules.bf16_pair.Statement Cert.GateUpIdeal.S1x2x512 Cert.GateUpIdeal.S1x1x512
  ∧ IdealRules.bf16_pair.HalfStatement Cert.GateUpIdeal.S32x128
  ∧ IdealRules.bf16_pair.Statement Cert.GateUpIdeal.S64x512 Cert.GateUpIdeal.S32x512
  ∧ IdealRules.bf16_pair.Statement Cert.GateUpIdeal.S2x512 Cert.GateUpIdeal.S1x512

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)) →
    ∃ (v0 : (c : Dev Cert.GateUpIdeal.nD) → Buf (Elt Ideal) ((c.tc : Thread Cert.GateUpIdeal.nD Cert.GateUpIdeal.τ).loc Cert.GateUpIdeal.main_v4_0)) (v1 : (c : Dev Cert.GateUpIdeal.nD) → Buf (Elt Ideal) ((c.tc : Thread Cert.GateUpIdeal.nD Cert.GateUpIdeal.τ).loc Cert.GateUpIdeal.main_v4_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4_0) = v0 c
          ∧ r.2.mem ((c.tc : Thread Cert.GateUpIdeal.nD Cert.GateUpIdeal.τ).loc Cert.GateUpIdeal.main_v4_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v37) = v0 c
          ∧ r.2.mem ((c.tc : Thread Cert.GateUpRefIdeal.nD Cert.GateUpRefIdeal.τ).loc Cert.GateUpRefIdeal.main_v41) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7))

def preserves_Down_DownIdeal : Prop :=
  IdealRules.bf16_pair.BufferStatement Cert.DownIdeal.S256x2x512 Cert.DownIdeal.S256x1x512
  ∧ IdealRules.bf16_pair.HalfStatement Cert.DownIdeal.S256x256
  ∧ IdealRules.bf16_pair.Statement Cert.DownIdeal.S256x2x256 Cert.DownIdeal.S256x1x256
  ∧ IdealRules.bf16_pair.Statement Cert.DownIdeal.S1x2x512 Cert.DownIdeal.S1x1x512
  ∧ IdealRules.bf16_pair.HalfStatement Cert.DownIdeal.S32x128
  ∧ IdealRules.bf16_pair.Statement Cert.DownIdeal.S64x512 Cert.DownIdeal.S32x512
  ∧ IdealRules.bf16_pair.Statement Cert.DownIdeal.S2x512 Cert.DownIdeal.S1x512

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v32) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def Claim : Prop :=
  ∃ (hPrep : Cert.Prep.Facts) (hPrepIdeal : Cert.PrepIdeal.Facts) (hPrepRefIdeal : Cert.PrepRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_Prep (hPrep := hPrep)
    ∧ quiescent_PrepIdeal (hPrepIdeal := hPrepIdeal)
    ∧ quiescent_PrepRefIdeal (hPrepRefIdeal := hPrepRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_Prep_PrepIdeal
    ∧ algebraic_PrepIdeal_PrepRefIdeal (hPrepIdeal := hPrepIdeal) (hPrepRefIdeal := hPrepRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== Prep.lean ====
abbrev S1x4096x8192 : Shape := ⟨3, ![1, 4096, 8192]⟩
abbrev S8192x64 : Shape := ⟨2, ![8192, 64]⟩
abbrev S4096x8192 : Shape := ⟨2, ![4096, 8192]⟩
abbrev S4096x64 : Shape := ⟨2, ![4096, 64]⟩
abbrev S256x8192 : Shape := ⟨2, ![256, 8192]⟩
abbrev S256x64 : Shape := ⟨2, ![256, 64]⟩

abbrev nBuf : Space → Nat
  | .hbm => 5
  | .vmem => 7
  | .smem => 0
  | _ => 0

abbrev bufTy : (tb : Table) → Fin (tcTables nBuf tb) → BufTy
  | .hbm, ⟨0, _⟩ => ⟨S1x4096x8192, .f32⟩
  | .hbm, ⟨1, _⟩ => ⟨S8192x64, .bf16⟩
  | .hbm, ⟨2, _⟩ => ⟨S4096x8192, .f32⟩
  | .hbm, ⟨3, _⟩ => ⟨S4096x8192, .bf16⟩
  | .hbm, ⟨4, _⟩ => ⟨S4096x64, .bf16⟩
  | .local _ .vmem, ⟨0, _⟩ => ⟨S256x8192, .f32⟩
  | .local _ .vmem, ⟨1, _⟩ => ⟨S256x8192, .f32⟩
  | .local _ .vmem, ⟨2, _⟩ => ⟨S8192x64, .bf16⟩
  | .local _ .vmem, ⟨3, _⟩ => ⟨S256x8192, .bf16⟩
  | .local _ .vmem, ⟨4, _⟩ => ⟨S256x8192, .bf16⟩
  | .local _ .vmem, ⟨5, _⟩ => ⟨S256x64, .bf16⟩
  | .local _ .vmem, ⟨6, _⟩ => ⟨S256x64, .bf16⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepRefIdeal.lean ====
abbrev S1x4096x8192 : Shape := ⟨3, ![1, 4096, 8192]⟩
abbrev S8192x64 : Shape := ⟨2, ![8192, 64]⟩
abbrev S4096x8192 : Shape := ⟨2, ![4096, 8192]⟩
abbrev S4096x64 : Shape := ⟨2, ![4096, 64]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S8192x64, .bf16⟩
  | .hbm, ⟨2, _⟩ => ⟨S1x4096x8192, .bf16⟩
  | .hbm, ⟨3, _⟩ => ⟨S4096x8192, .bf16⟩
  | .hbm, ⟨4, _⟩ => ⟨S4096x64, .f32⟩
  | .hbm, ⟨5, _⟩ => ⟨S4096x64, .bf16⟩
  | .hbm, ⟨6, _⟩ => ⟨S_, .bf16⟩
  | .hbm, ⟨7, _⟩ => ⟨S4096x64, .bf16⟩
  | .hbm, ⟨8, _⟩ => ⟨S4096x64, .bf16⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateUp.lean ====
abbrev S4096x8192 : Shape := ⟨2, ![4096, 8192]⟩
abbrev S4096x64 : Shape := ⟨2, ![4096, 64]⟩
abbrev S16 : Shape := ⟨1, ![16]⟩
abbrev S4096x32768 : Shape := ⟨2, ![4096, 32768]⟩
abbrev S128x32768 : Shape := ⟨2, ![128, 32768]⟩
abbrev S128x128 : Shape := ⟨2, ![128, 128]⟩
abbrev S64x32768 : Shape := ⟨2, ![64, 32768]⟩
abbrev S16384x64 : Shape := ⟨2, ![16384, 64]⟩
abbrev S_ : Shape := ⟨0, ![]⟩
abbrev S128 : Shape := ⟨1, ![128]⟩
abbrev S1x128 : Shape := ⟨2, ![1, 128]⟩
abbrev S128x128x1 : Shape := ⟨3, ![128, 128, 1]⟩
abbrev S4096x16384 : Shape := ⟨2, ![4096, 16384]⟩
abbrev S512x8192 : Shape := ⟨2, ![512, 8192]⟩
abbrev S512x64 : Shape := ⟨2, ![512, 64]⟩
abbrev S4096x512 : Shape := ⟨2, ![4096, 512]⟩
abbrev S128x512 : Shape := ⟨2, ![128, 512]⟩
abbrev S2x128x1 : Shape := ⟨3, ![2, 128, 1]⟩
abbrev S64x512 : Shape := ⟨2, ![64, 512]⟩
abbrev S512x512 : Shape := ⟨2, ![512, 512]⟩
abbrev S8192x1024 : Shape := ⟨2, ![8192, 1024]⟩
abbrev S128x1024 : Shape := ⟨2, ![128, 1024]⟩
abbrev S128x256 : Shape := ⟨2, ![128, 256]⟩
abbrev S1x128x1 : Shape := ⟨3, ![1, 128, 1]⟩
abbrev S128x1 : Shape := ⟨2, ![128, 1]⟩
abbrev S32x512 : Shape := ⟨2, ![32, 512]⟩
abbrev S1x512 : Shape := ⟨2, ![1, 512]⟩
abbrev S32x128 : Shape := ⟨2, ![32, 128]⟩
abbrev S32x128x1 : Shape := ⟨3, ![32, 128, 1]⟩
abbrev S2x512 : Shape := ⟨2, ![2, 512]⟩
abbrev S512x1024 : Shape := ⟨2, ![512, 1024]⟩

abbrev nBuf : Space → Nat
  | .hbm => 16
  | .vmem => 29
  | .smem => 0
  | _ => 0

abbrev bufTy : (tb : Table) → Fin (tcTables nBuf tb) → BufTy
  | .hbm, ⟨0, _⟩ => ⟨S4096x8192, .bf16⟩
  | .hbm, ⟨1, _⟩ => ⟨S4096x64, .bf16⟩
  | .hbm, ⟨2, _⟩ => ⟨S16, .f32⟩
  | .hbm, ⟨3, _⟩ => ⟨S4096x32768, .i8⟩
  | .hbm, ⟨4, _⟩ => ⟨S128x32768, .i8⟩
  | .hbm, ⟨5, _⟩ => ⟨S128x128, .f32⟩
  | .hbm, ⟨6, _⟩ => ⟨S64x32768, .bf16⟩
  | .hbm, ⟨7, _⟩ => ⟨S16384x64, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S128x128, .f32⟩
  | .hbm, ⟨13, _⟩ => ⟨S128x128x1, .f32⟩
  | .hbm, ⟨14, _⟩ => ⟨S4096x16384, .bf16⟩
  | .hbm, ⟨15, _⟩ => ⟨S4096x64, .bf16⟩
  | .local _ .vmem, ⟨0, _⟩ => ⟨S512x8192, .bf16⟩
  | .local _ .vmem, ⟨1, _⟩ => ⟨S512x8192, .bf16⟩
  | .local _ .vmem, ⟨2, _⟩ => ⟨S512x64, .bf16⟩
  | .local _ .vmem, ⟨3, _⟩ => ⟨S512x64, .bf16⟩
  | .local _ .vmem, ⟨4, _⟩ => ⟨S1x128, .f32⟩
  | .local _ .vmem, ⟨5, _⟩ => ⟨S4096x512, .i8⟩
  | .local _ .vmem, ⟨6, _⟩ => ⟨S4096x512, .i8⟩
  | .local _ .vmem, ⟨7, _⟩ => ⟨S4096x512, .i8⟩
  | .local _ .vmem, ⟨8, _⟩ => ⟨S4096x512, .i8⟩
  | .local _ .vmem, ⟨9, _⟩ => ⟨S128x512, .i8⟩
  | .local _ .vmem, ⟨10, _⟩ => ⟨S128x512, .i8⟩
  | .local _ .vmem, ⟨11, _⟩ => ⟨S128x512, .i8⟩
  | .local _ .vmem, ⟨12, _⟩ => ⟨S128x512, .i8⟩
  | .local _ .vmem, ⟨13, _⟩ => ⟨S2x128x1, .f32⟩
  | .local _ .vmem, ⟨14, _⟩ => ⟨S2x128x1, .f32⟩
  | .local _ .vmem, ⟨15, _⟩ => ⟨S2x128x1, .f32⟩
  | .local _ .vmem, ⟨16, _⟩ => ⟨S2x128x1, .f32⟩
  | .local _ .vmem, ⟨17, _⟩ => ⟨S64x512, .bf16⟩
  | .local _ .vmem, ⟨18, _⟩ => ⟨S64x512, .bf16⟩
  | .local _ .vmem, ⟨19, _⟩ => ⟨S64x512, .bf16⟩
  | .local _ .vmem, ⟨20, _⟩ => ⟨S64x512, .bf16⟩
  | .local _ .vmem, ⟨21, _⟩ => ⟨S512x64, .bf16⟩
  | .local _ .vmem, ⟨22, _⟩ => ⟨S512x64, .bf16⟩
  | .local _ .vmem, ⟨23, _⟩ => ⟨S512x512, .bf16⟩
  | .local _ .vmem, ⟨24, _⟩ => ⟨S512x512, .bf16⟩
  | .local _ .vmem, ⟨25, _⟩ => ⟨S4096x64, .bf16⟩
  | .local _ .vmem, ⟨26, _⟩ => ⟨S8192x1024, .bf16⟩
  | .local _ .vmem, ⟨27, _⟩ => ⟨S128x1024, .i32⟩
  | .local _ .vmem, ⟨28, _⟩ => ⟨S4096x64, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [BitOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_55 : BitVec 32 := 0#32
  let c128_i32 : BitVec 32 := 128#32
  let v102 : BitVec 32 := Scalar.addi c0_i32_55 c128_i32
  let c1_i32 : BitVec 32 := 1#32
  ⟨c0_i32_55, v102, c1_i32⟩
def k0_off1 (k0_t1 : Fin k0_t1_loop.trips) : Fin 2 → Nat :=
  let c0_i32_55 : BitVec 32 := 0#32
  let c1_i32 : BitVec 32 := 1#32
  let arg19 : BitVec 32 := Scf.iv c0_i32_55 c1_i32 k0_t1
  let c32_i32 : BitVec 32 := 32#32
  let v106 : BitVec 32 := Scalar.muli arg19 c32_i32
  let v107 : Index := Scalar.indexCast v106
  let c0_63 : Index := 0#32
  ![v107.toNat, 0]
def k0_off2 (k0_t1 : Fin k0_t1_loop.trips) : Fin 2 → Nat :=
  let c0_i32_55 : BitVec 32 := 0#32
  let c1_i32 : BitVec 32 := 1#32
  let arg19 : BitVec 32 := Scf.iv c0_i32_55 c1_i32 k0_t1
  let v109 : Index := Scalar.indexCast arg19
  let c0_64 : Index := 0#32
  ![v109.toNat, 0]
def k0_off3 (k0_t1 : Fin k0_t1_loop.trips) : Fin 2 → Nat :=
  let c0_i32_55 : BitVec 32 := 0#32
  let c1_i32 : BitVec 32 := 1#32
  let arg19 : BitVec 32 := Scf.iv c0_i32_55 c1_i32 k0_t1
  let c64_i32 : BitVec 32 := 64#32
  let v249 : BitVec 32 := Scalar.muli arg19 c64_i32
  let v250 : Index := Scalar.indexCast v249
  let c0_93 : Index := 0#32
  ![v250.toNat, 0]
@[reducible] def k0_t2_loop : Scf.Loop 32 :=
  let c0_i32_59 : BitVec 32 := 0#32
  let c128_i32_60 : BitVec 32 := 128#32
  let v105 : BitVec 32 := Scalar.addi c0_i32_59 c128_i32_60
  let c1_i32_61 : BitVec 32 := 1#32
  ⟨c0_i32_59, v105, c1_i32_61⟩
def k0_off4 (k0_t2 : Fin k0_t2_loop.trips) : Fin 2 → Nat :=
  let c0_i32_59 : BitVec 32 := 0#32
  let c1_i32_61 : BitVec 32 := 1#32
  let arg19 : BitVec 32 := Scf.iv c0_i32_59 c1_i32_61 k0_t2
  let c32_i32 : BitVec 32 := 32#32
  let v106 : BitVec 32 := Scalar.muli arg19 c32_i32
  let v107 : Index := Scalar.indexCast v106
  let c0_63 : Index := 0#32
  ![v107.toNat, 0]
def k0_off5 (k0_t2 : Fin k0_t2_loop.trips) : Fin 2 → Nat :=
  let c0_i32_59 : BitVec 32 := 0#32
  let c1_i32_61 : BitVec 32 := 1#32
  let arg19 : BitVec 32 := Scf.iv c0_i32_59 c1_i32_61 k0_t2
  let v109 : Index := Scalar.indexCast arg19
  let c512_64 : Index := 512#32
  ![v109.toNat, 512]
def k0_off6 (k0_t2 : Fin k0_t2_loop.trips) : Fin 2 → Nat :=
  let c0_i32_59 : BitVec 32 := 0#32
  let c1_i32_61 : BitVec 32 := 1#32
  let arg19 : BitVec 32 := Scf.iv c0_i32_59 c1_i32_61 k0_t2
  let c64_i32 : BitVec 32 := 64#32
  let v249 : BitVec 32 := Scalar.muli arg19 c64_i32
  let v250 : Index := Scalar.indexCast v249
  let c512_93 : Index := 512#32
  ![v250.toNat, 512]
def k0_cond2 (i : grid0.Coords) : BitVec 1 :=
  let arg0 : BitVec 32 := BitVec.ofNat 32 (i 0).val
  let c0_i32_17 : BitVec 32 := 0#32
  let v23 : BitVec 1 := Scalar.cmpi .eq arg0 c0_i32_17
  let v24 : BitVec 32 := Scalar.extui v23
  let c0_i32_18 : BitVec 32 := 0#32
  let v25 : BitVec 1 := Scalar.cmpi .ne v24 c0_i32_18
  v25

def k0_off7 (i : grid0.Coords) : Fin 2 → Nat :=
  let arg1 : BitVec 32 := BitVec.ofNat 32 (i 1).val
  let c512_i32 : BitVec 32 := 512#32
  let v22 : BitVec 32 := Scalar.muli arg1 c512_i32
  let v32 : Index := Scalar.indexCast v22
  let c0_22 : Index := 0#32
  ![v32.toNat, 0]
def k0_cond3 (i : grid0.Coords) : BitVec 1 :=
  let arg0 : BitVec 32 := BitVec.ofNat 32 (i 0).val
  let c0_i32_19 : BitVec 32 := 0#32
  let v26 : BitVec 1 := Scalar.cmpi .sgt arg0 c0_i32_19
  let v27 : BitVec 32 := Scalar.extui v26
  let c0_i32_20 : BitVec 32 := 0#32
  let v28 : BitVec 1 := Scalar.cmpi .ne v27 c0_i32_20
  v28

def k0_off8 (i : grid0.Coords) : Fin 2 → Nat :=
  let arg1 : BitVec 32 := BitVec.ofNat 32 (i 1).val
  let c512_i32 : BitVec 32 := 512#32
  let v22 : BitVec 32 := Scalar.muli arg1 c512_i32
  let v32 : Index := Scalar.indexCast v22
  let c0_22 : Index := 0#32
  ![v32.toNat, 0]
def k0_cond4 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_21 : BitVec 32 := 0#32
  let v31 : BitVec 1 := Scalar.cmpi .ne v30 c0_i32_21
  v31

def k0_off9 (i : grid0.Coords) : Fin 2 → Nat :=
  let arg1 : BitVec 32 := BitVec.ofNat 32 (i 1).val
  let c512_i32 : BitVec 32 := 512#32
  let v22 : BitVec 32 := Scalar.muli arg1 c512_i32
  let v32 : Index := Scalar.indexCast v22
  let c0_22 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S4096x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== GateUpIdeal.lean ====
abbrev S4096x8192 : Shape := ⟨2, ![4096, 8192]⟩
abbrev S4096x64 : Shape := ⟨2, ![4096, 64]⟩
abbrev S16 : Shape := ⟨1, ![16]⟩
abbrev S4096x32768 : Shape := ⟨2, ![4096, 32768]⟩
abbrev S128x32768 : Shape := ⟨2, ![128, 32768]⟩
abbrev S128x128 : Shape := ⟨2, ![128, 128]⟩
abbrev S64x32768 : Shape := ⟨2, ![64, 32768]⟩
abbrev S16384x64 : Shape := ⟨2, ![16384, 64]⟩
abbrev S_ : Shape := ⟨0, ![]⟩
abbrev S128 : Shape := ⟨1, ![128]⟩
abbrev S1x128 : Shape := ⟨2, ![1, 128]⟩
abbrev S128x128x1 : Shape := ⟨3, ![128, 128, 1]⟩
abbrev S4096x16384 : Shape := ⟨2, ![4096, 16384]⟩
abbrev S512x8192 : Shape := ⟨2, ![512, 8192]⟩
abbrev S512x64 : Shape := ⟨2, ![512, 64]⟩
abbrev S4096x512 : Shape := ⟨2, ![4096, 512]⟩
abbrev S128x512 : Shape := ⟨2, ![128, 512]⟩
abbrev S2x128x1 : Shape := ⟨3, ![2, 128, 1]⟩
abbrev S64x512 : Shape := ⟨2, ![64, 512]⟩
abbrev S512x512 : Shape := ⟨2, ![512, 512]⟩
abbrev S8192x1024 : Shape := ⟨2, ![8192, 1024]⟩
abbrev S128x1024 : Shape := ⟨2, ![128, 1024]⟩
abbrev S128x2x1024 : Shape := ⟨3, ![128, 2, 1024]⟩
abbrev S128x1x1024 : Shape := ⟨3, ![128, 1, 1024]⟩
abbrev S128x256 : Shape := ⟨2, ![128, 256]⟩
abbrev S1x128x1 : Shape := ⟨3, ![1, 128, 1]⟩
abbrev S128x1 : Shape := ⟨2, ![128, 1]⟩
abbrev S128x2x256 : Shape := ⟨3, ![128, 2, 256]⟩
abbrev S128x1x256 : Shape := ⟨3, ![128, 1, 256]⟩
abbrev S32x512 : Shape := ⟨2, ![32, 512]⟩
abbrev S1x512 : Shape := ⟨2, ![1, 512]⟩
abbrev S1x2x512 : Shape := ⟨3, ![1, 2, 512]⟩
abbrev S1x1x512 : Shape := ⟨3, ![1, 1, 512]⟩
abbrev S32x128 : Shape := ⟨2, ![32, 128]⟩
abbrev S32x128x1 : Shape := ⟨3, ![32, 128, 1]⟩
abbrev S2x512 : Shape := ⟨2, ![2, 512]⟩
abbrev S512x1024 : Shape := ⟨2, ![512, 1024]⟩

abbrev nBuf : Space → Nat
  | .hbm => 16
  | .vmem => 29
  | .smem => 0
  | _ => 0

abbrev bufTy : (tb : Table) → Fin (tcTables nBuf tb) → BufTy
  | .hbm, ⟨0, _⟩ => ⟨S4096x8192, .bf16⟩
  | .hbm, ⟨1, _⟩ => ⟨S4096x64, .bf16⟩
  | .hbm, ⟨2, _⟩ => ⟨S16, .f32⟩
  | .hbm, ⟨3, _⟩ => ⟨S4096x32768, .i8⟩
  | .hbm, ⟨4, _⟩ => ⟨S128x32768, .i8⟩
  | .hbm, ⟨5, _⟩ => ⟨S128x128, .f32⟩
  | .hbm, ⟨6, _⟩ => ⟨S64x32768, .bf16⟩
  | .hbm, ⟨7, _⟩ => ⟨S16384x64, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S128x128, .f32⟩
  | .hbm, ⟨13, _⟩ => ⟨S128x128x1, .f32⟩
  | .hbm, ⟨14, _⟩ => ⟨S4096x16384, .bf16⟩
  | .hbm, ⟨15, _⟩ => ⟨S4096x64, .bf16⟩
  | .local _ .vmem, ⟨0, _⟩ => ⟨S512x8192, .bf16⟩
  | .local _ .vmem, ⟨1, _⟩ => ⟨S512x8192, .bf16⟩
  | .local _ .vmem, ⟨2, _⟩ => ⟨S512x64, .bf16⟩
  | .local _ .vmem, ⟨3, _⟩ => ⟨S512x64, .bf16⟩
  | .local _ .vmem, ⟨4, _⟩ => ⟨S1x128, .f32⟩
  | .local _ .vmem, ⟨5, _⟩ => ⟨S4096x512, .i8⟩
  | .local _ .vmem, ⟨6, _⟩ => ⟨S4096x512, .i8⟩
  | .local _ .vmem, ⟨7, _⟩ => ⟨S4096x512, .i8⟩
  | .local _ .vmem, ⟨8, _⟩ => ⟨S4096x512, .i8⟩
  | .local _ .vmem, ⟨9, _⟩ => ⟨S128x512, .i8⟩
  | .local _ .vmem, ⟨10, _⟩ => ⟨S128x512, .i8⟩
  | .local _ .vmem, ⟨11, _⟩ => ⟨S128x512, .i8⟩
  | .local _ .vmem, ⟨12, _⟩ => ⟨S128x512, .i8⟩
  | .local _ .vmem, ⟨13, _⟩ => ⟨S2x128x1, .f32⟩
  | .local _ .vmem, ⟨14, _⟩ => ⟨S2x128x1, .f32⟩
  | .local _ .vmem, ⟨15, _⟩ => ⟨S2x128x1, .f32⟩
  | .local _ .vmem, ⟨16, _⟩ => ⟨S2x128x1, .f32⟩
  | .local _ .vmem, ⟨17, _⟩ => ⟨S64x512, .bf16⟩
  | .local _ .vmem, ⟨18, _⟩ => ⟨S64x512, .bf16⟩
  | .local _ .vmem, ⟨19, _⟩ => ⟨S64x512, .bf16⟩
  | .local _ .vmem, ⟨20, _⟩ => ⟨S64x512, .bf16⟩
  | .local _ .vmem, ⟨21, _⟩ => ⟨S512x64, .bf16⟩
  | .local _ .vmem, ⟨22, _⟩ => ⟨S512x64, .bf16⟩
  | .local _ .vmem, ⟨23, _⟩ => ⟨S512x512, .bf16⟩
  | .local _ .vmem, ⟨24, _⟩ => ⟨S512x512, .bf16⟩
  | .local _ .vmem, ⟨25, _⟩ => ⟨S4096x64, .bf16⟩
  | .local _ .vmem, ⟨26, _⟩ => ⟨S8192x1024, .bf16⟩
  | .local _ .vmem, ⟨27, _⟩ => ⟨S128x2x1024, .bf16⟩
  | .local _ .vmem, ⟨28, _⟩ => ⟨S4096x64, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_55 : BitVec 32 := 0#32
  let c128_i32 : BitVec 32 := 128#32
  let v102 : BitVec 32 := Scalar.addi c0_i32_55 c128_i32
  let c1_i32 : BitVec 32 := 1#32
  ⟨c0_i32_55, v102, c1_i32⟩
def k0_off1 (k0_t1 : Fin k0_t1_loop.trips) : Fin 2 → Nat :=
  let c0_i32_55 : BitVec 32 := 0#32
  let c1_i32 : BitVec 32 := 1#32
  let arg19 : BitVec 32 := Scf.iv c0_i32_55 c1_i32 k0_t1
  let c32_i32 : BitVec 32 := 32#32
  let v106 : BitVec 32 := Scalar.muli arg19 c32_i32
  let v107 : Index := Scalar.indexCast v106
  let c0_63 : Index := 0#32
  ![v107.toNat, 0]
def k0_off2 (k0_t1 : Fin k0_t1_loop.trips) : Fin 3 → Nat :=
  let c0_i32_55 : BitVec 32 := 0#32
  let c1_i32 : BitVec 32 := 1#32
  let arg19 : BitVec 32 := Scf.iv c0_i32_55 c1_i32 k0_t1
  let v109 : Index := Scalar.indexCast arg19
  let c0_64 : Index := 0#32
  ![v109.toNat, 0, 0]
def k0_off3 (k0_t1 : Fin k0_t1_loop.trips) : Fin 2 → Nat :=
  let c0_i32_55 : BitVec 32 := 0#32
  let c1_i32 : BitVec 32 := 1#32
  let arg19 : BitVec 32 := Scf.iv c0_i32_55 c1_i32 k0_t1
  let c64_i32 : BitVec 32 := 64#32
  let v249 : BitVec 32 := Scalar.muli arg19 c64_i32
  let v250 : Index := Scalar.indexCast v249
  let c0_93 : Index := 0#32
  ![v250.toNat, 0]
@[reducible] def k0_t2_loop : Scf.Loop 32 :=
  let c0_i32_59 : BitVec 32 := 0#32
  let c128_i32_60 : BitVec 32 := 128#32
  let v105 : BitVec 32 := Scalar.addi c0_i32_59 c128_i32_60
  let c1_i32_61 : BitVec 32 := 1#32
  ⟨c0_i32_59, v105, c1_i32_61⟩
def k0_off4 (k0_t2 : Fin k0_t2_loop.trips) : Fin 2 → Nat :=
  let c0_i32_59 : BitVec 32 := 0#32
  let c1_i32_61 : BitVec 32 := 1#32
  let arg19 : BitVec 32 := Scf.iv c0_i32_59 c1_i32_61 k0_t2
  let c32_i32 : BitVec 32 := 32#32
  let v106 : BitVec 32 := Scalar.muli arg19 c32_i32
  let v107 : Index := Scalar.indexCast v106
  let c0_63 : Index := 0#32
  ![v107.toNat, 0]
def k0_off5 (k0_t2 : Fin k0_t2_loop.trips) : Fin 3 → Nat :=
  let c0_i32_59 : BitVec 32 := 0#32
  let c1_i32_61 : BitVec 32 := 1#32
  let arg19 : BitVec 32 := Scf.iv c0_i32_59 c1_i32_61 k0_t2
  let v109 : Index := Scalar.indexCast arg19
  let c512_64 : Index := 512#32
  ![v109.toNat, 0, 512]
def k0_off6 (k0_t2 : Fin k0_t2_loop.trips) : Fin 2 → Nat :=
  let c0_i32_59 : BitVec 32 := 0#32
  let c1_i32_61 : BitVec 32 := 1#32
  let arg19 : BitVec 32 := Scf.iv c0_i32_59 c1_i32_61 k0_t2
  let c64_i32 : BitVec 32 := 64#32
  let v249 : BitVec 32 := Scalar.muli arg19 c64_i32
  let v250 : Index := Scalar.indexCast v249
  let c512_93 : Index := 512#32
  ![v250.toNat, 512]
def k0_cond2 (i : grid0.Coords) : BitVec 1 :=
  let arg0 : BitVec 32 := BitVec.ofNat 32 (i 0).val
  let c0_i32_17 : BitVec 32 := 0#32
  let v23 : BitVec 1 := Scalar.cmpi .eq arg0 c0_i32_17
  let v24 : BitVec 32 := Scalar.extui v23
  let c0_i32_18 : BitVec 32 := 0#32
  let v25 : BitVec 1 := Scalar.cmpi .ne v24 c0_i32_18
  v25

def k0_off7 (i : grid0.Coords) : Fin 2 → Nat :=
  let arg1 : BitVec 32 := BitVec.ofNat 32 (i 1).val
  let c512_i32 : BitVec 32 := 512#32
  let v22 : BitVec 32 := Scalar.muli arg1 c512_i32
  let v32 : Index := Scalar.indexCast v22
  let c0_22 : Index := 0#32
  ![v32.toNat, 0]
def k0_cond3 (i : grid0.Coords) : BitVec 1 :=
  let arg0 : BitVec 32 := BitVec.ofNat 32 (i 0).val
  let c0_i32_19 : BitVec 32 := 0#32
  let v26 : BitVec 1 := Scalar.cmpi .sgt arg0 c0_i32_19
  let v27 : BitVec 32 := Scalar.extui v26
  let c0_i32_20 : BitVec 32 := 0#32
  let v28 : BitVec 1 := Scalar.cmpi .ne v27 c0_i32_20
  v28

def k0_off8 (i : grid0.Coords) : Fin 2 → Nat :=
  let arg1 : BitVec 32 := BitVec.ofNat 32 (i 1).val
  let c512_i32 : BitVec 32 := 512#32
  let v22 : BitVec 32 := Scalar.muli arg1 c512_i32
  let v32 : Index := Scalar.indexCast v22
  let c0_22 : Index := 0#32
  ![v32.toNat, 0]
def k0_cond4 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_21 : BitVec 32 := 0#32
  let v31 : BitVec 1 := Scalar.cmpi .ne v30 c0_i32_21
  v31

def k0_off9 (i : grid0.Coords) : Fin 2 → Nat :=
  let arg1 : BitVec 32 := BitVec.ofNat 32 (i 1).val
  let c512_i32 : BitVec 32 := 512#32
  let v22 : BitVec 32 := Scalar.muli arg1 c512_i32
  let v32 : Index := Scalar.indexCast v22
  let c0_22 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S4096x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== GateUpRefIdeal.lean ====
abbrev S4096x8192 : Shape := ⟨2, ![4096, 8192]⟩
abbrev S4096x64 : Shape := ⟨2, ![4096, 64]⟩
abbrev S16 : Shape := ⟨1, ![16]⟩
abbrev S4096x32768 : Shape := ⟨2, ![4096, 32768]⟩
abbrev S128x32768 : Shape := ⟨2, ![128, 32768]⟩
abbrev S128x128 : Shape := ⟨2, ![128, 128]⟩
abbrev S64x32768 : Shape := ⟨2, ![64, 32768]⟩
abbrev S16384x64 : Shape := ⟨2, ![16384, 64]⟩
abbrev S_ : Shape := ⟨0, ![]⟩
abbrev S4096x1x32768 : Shape := ⟨3, ![4096, 1, 32768]⟩
abbrev S4096x2x32768 : Shape := ⟨3, ![4096, 2, 32768]⟩
abbrev S8192x32768 : Shape := ⟨2, ![8192, 32768]⟩
abbrev S128x128x256 : Shape := ⟨3, ![128, 128, 256]⟩
abbrev S128x128x1 : Shape := ⟨3, ![128, 128, 1]⟩
abbrev S8192x32768x1 : Shape := ⟨3, ![8192, 32768, 1]⟩
abbrev S128x64x32768 : Shape := ⟨3, ![128, 64, 32768]⟩
abbrev S128x1x32768 : Shape := ⟨3, ![128, 1, 32768]⟩
abbrev S4096x16384 : Shape := ⟨2, ![4096, 16384]⟩

abbrev nBuf : Space → Nat
  | .hbm => 63
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x64, .bf16⟩
  | .hbm, ⟨2, _⟩ => ⟨S16, .f32⟩
  | .hbm, ⟨3, _⟩ => ⟨S4096x32768, .i8⟩
  | .hbm, ⟨4, _⟩ => ⟨S128x32768, .i8⟩
  | .hbm, ⟨5, _⟩ => ⟨S128x128, .f32⟩
  | .hbm, ⟨6, _⟩ => ⟨S64x32768, .bf16⟩
  | .hbm, ⟨7, _⟩ => ⟨S16384x64, .bf16⟩
  | .hbm, ⟨8, _⟩ => ⟨S4096x32768, .i32⟩
  | .hbm, ⟨9, _⟩ => ⟨S_, .i32⟩
  | .hbm, ⟨10, _⟩ => ⟨S4096x32768, .i32⟩
  | .hbm, ⟨11, _⟩ => ⟨S4096x32768, .i32⟩
  | .hbm, ⟨12, _⟩ => ⟨S_, .i32⟩
  | .hbm, ⟨13, _⟩ => ⟨S4096x32768, .i32⟩
  | .hbm, ⟨14, _⟩ => ⟨S4096x32768, .i32⟩
  | .hbm, ⟨15, _⟩ => ⟨S4096x1x32768, .i32⟩
  | .hbm, ⟨16, _⟩ => ⟨S4096x1x32768, .i32⟩
  | .hbm, ⟨17, _⟩ => ⟨S4096x2x32768, .i32⟩
  | .hbm, ⟨18, _⟩ => ⟨S8192x32768, .i32⟩
  | .hbm, ⟨19, _⟩ => ⟨S128x32768, .i32⟩
  | .hbm, ⟨20, _⟩ => ⟨S128x32768, .f32⟩
  | .hbm, ⟨21, _⟩ => ⟨S128x128x256, .f32⟩
  | .hbm, ⟨22, _⟩ => ⟨S128x128x1, .f32⟩
  | .hbm, ⟨23, _⟩ => ⟨S128x128x256, .f32⟩
  | .hbm, ⟨24, _⟩ => ⟨S128x128x256, .f32⟩
  | .hbm, ⟨25, _⟩ => ⟨S128x32768, .f32⟩
  | .hbm, ⟨26, _⟩ => ⟨S128x32768, .bf16⟩
  | .hbm, ⟨27, _⟩ => ⟨S16, .bf16⟩
  | .hbm, ⟨28, _⟩ => ⟨S_, .i32⟩
  | .hbm, ⟨29, _⟩ => ⟨S8192x32768, .i32⟩
  | .hbm, ⟨30, _⟩ => ⟨S8192x32768, .i1⟩
  | .hbm, ⟨31, _⟩ => ⟨S_, .i32⟩
  | .hbm, ⟨32, _⟩ => ⟨S8192x32768, .i32⟩
  | .hbm, ⟨33, _⟩ => ⟨S8192x32768, .i32⟩
  | .hbm, ⟨34, _⟩ => ⟨S8192x32768, .i32⟩
  | .hbm, ⟨35, _⟩ => ⟨S8192x32768x1, .i32⟩
  | .hbm, ⟨36, _⟩ => ⟨S8192x32768, .bf16⟩
  | .hbm, ⟨37, _⟩ => ⟨S128x64x32768, .bf16⟩
  | .hbm, ⟨38, _⟩ => ⟨S128x1x32768, .bf16⟩
  | .hbm, ⟨39, _⟩ => ⟨S128x64x32768, .bf16⟩
  | .hbm, ⟨40, _⟩ => ⟨S128x64x32768, .bf16⟩
  | .hbm, ⟨41, _⟩ => ⟨S8192x32768, .bf16⟩
  | .hbm, ⟨42, _⟩ => ⟨S4096x32768, .f32⟩
  | .hbm, ⟨43, _⟩ => ⟨S4096x32768, .f32⟩
  | .hbm, ⟨44, _⟩ => ⟨S4096x32768, .f32⟩
  | .hbm, ⟨45, _⟩ => ⟨S4096x16384, .f32⟩
  | .hbm, ⟨46, _⟩ => ⟨S4096x16384, .f32⟩
  | .hbm, ⟨47, _⟩ => ⟨S4096x16384, .f32⟩
  | .hbm, ⟨48, _⟩ => ⟨S4096x16384, .f32⟩
  | .hbm, ⟨49, _⟩ => ⟨S_, .f32⟩
  | .hbm, ⟨50, _⟩ => ⟨S4096x16384, .f32⟩
  | .hbm, ⟨51, _⟩ => ⟨S4096x16384, .f32⟩
  | .hbm, ⟨52, _⟩ => ⟨S_, .f32⟩
  | .hbm, ⟨53, _⟩ => ⟨S4096x16384, .f32⟩
  | .hbm, ⟨54, _⟩ => ⟨S4096x16384, .f32⟩
  | .hbm, ⟨55, _⟩ => ⟨S4096x16384, .f32⟩
  | .hbm, ⟨56, _⟩ => ⟨S4096x16384, .f32⟩
  | .hbm, ⟨57, _⟩ => ⟨S4096x16384, .bf16⟩
  | .hbm, ⟨58, _⟩ => ⟨S4096x64, .f32⟩
  | .hbm, ⟨59, _⟩ => ⟨S4096x64, .bf16⟩
  | .hbm, ⟨60, _⟩ => ⟨S_, .bf16⟩
  | .hbm, ⟨61, _⟩ => ⟨S4096x64, .bf16⟩
  | .hbm, ⟨62, _⟩ => ⟨S4096x64, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Down.lean ====
abbrev S4096x16384 : Shape := ⟨2, ![4096, 16384]⟩
abbrev S4096x64 : Shape := ⟨2, ![4096, 64]⟩
abbrev S16 : Shape := ⟨1, ![16]⟩
abbrev S8192x8192 : Shape := ⟨2, ![8192, 8192]⟩
abbrev S256x8192 : Shape := ⟨2, ![256, 8192]⟩
abbrev S256x32 : Shape := ⟨2, ![256, 32]⟩
abbrev S64x8192 : Shape := ⟨2, ![64, 8192]⟩
abbrev S_ : Shape := ⟨0, ![]⟩
abbrev S128 : Shape := ⟨1, ![128]⟩
abbrev S1x128 : Shape := ⟨2, ![1, 128]⟩
abbrev S32x256 : Shape := ⟨2, ![32, 256]⟩
abbrev S32x256x1 : Shape := ⟨3, ![32, 256, 1]⟩
abbrev S4096x8192 : Shape := ⟨2, ![4096, 8192]⟩
abbrev S512x16384 : Shape := ⟨2, ![512, 16384]⟩
abbrev S512x64 : Shape := ⟨2, ![512, 64]⟩
abbrev S8192x512 : Shape := ⟨2, ![8192, 512]⟩
abbrev S256x512 : Shape := ⟨2, ![256, 512]⟩
abbrev S2x256x1 : Shape := ⟨3, ![2, 256, 1]⟩
abbrev S64x512 : Shape := ⟨2, ![64, 512]⟩
abbrev S512x512 : Shape := ⟨2, ![512, 512]⟩
abbrev S16384x512 : Shape := ⟨2, ![16384, 512]⟩
abbrev S256x256 : Shape := ⟨2, ![256, 256]⟩
abbrev S1x256x1 : Shape := ⟨3, ![1, 256, 1]⟩
abbrev S256x1 : Shape := ⟨2, ![256, 1]⟩
abbrev S32x512 : Shape := ⟨2, ![32, 512]⟩
abbrev S1x512 : Shape := ⟨2, ![1, 512]⟩
abbrev S32x128 : Shape := ⟨2, ![32, 128]⟩
abbrev S32x128x1 : Shape := ⟨3, ![32, 128, 1]⟩
abbrev S2x512 : Shape := ⟨2, ![2, 512]⟩

abbrev nBuf : Space → Nat
  | .hbm => 14
  | .vmem => 17
  | .smem => 0
  | _ => 0

abbrev bufTy : (tb : Table) → Fin (tcTables nBuf tb) → BufTy
  | .hbm, ⟨0, _⟩ => ⟨S4096x16384, .bf16⟩
  | .hbm, ⟨1, _⟩ => ⟨S4096x64, .bf16⟩
  | .hbm, ⟨2, _⟩ => ⟨S16, .f32⟩
  | .hbm, ⟨3, _⟩ => ⟨S8192x8192, .i8⟩
  | .hbm, ⟨4, _⟩ => ⟨S256x8192, .i8⟩
  | .hbm, ⟨5, _⟩ => ⟨S256x32, .f32⟩
  | .hbm, ⟨6, _⟩ => ⟨S64x8192, .bf16⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S32x256, .f32⟩
  | .hbm, ⟨12, _⟩ => ⟨S32x256x1, .f32⟩
  | .hbm, ⟨13, _⟩ => ⟨S4096x8192, .f32⟩
  | .local _ .vmem, ⟨0, _⟩ => ⟨S512x16384, .bf16⟩
  | .local _ .vmem, ⟨1, _⟩ => ⟨S512x16384, .bf16⟩
  | .local _ .vmem, ⟨2, _⟩ => ⟨S512x64, .bf16⟩
  | .local _ .vmem, ⟨3, _⟩ => ⟨S512x64, .bf16⟩
  | .local _ .vmem, ⟨4, _⟩ => ⟨S1x128, .f32⟩
  | .local _ .vmem, ⟨5, _⟩ => ⟨S8192x512, .i8⟩
  | .local _ .vmem, ⟨6, _⟩ => ⟨S8192x512, .i8⟩
  | .local _ .vmem, ⟨7, _⟩ => ⟨S256x512, .i8⟩
  | .local _ .vmem, ⟨8, _⟩ => ⟨S256x512, .i8⟩
  | .local _ .vmem, ⟨9, _⟩ => ⟨S2x256x1, .f32⟩
  | .local _ .vmem, ⟨10, _⟩ => ⟨S2x256x1, .f32⟩
  | .local _ .vmem, ⟨11, _⟩ => ⟨S64x512, .bf16⟩
  | .local _ .vmem, ⟨12, _⟩ => ⟨S64x512, .bf16⟩
  | .local _ .vmem, ⟨13, _⟩ => ⟨S512x512, .f32⟩
  | .local _ .vmem, ⟨14, _⟩ => ⟨S512x512, .f32⟩
  | .local _ .vmem, ⟨15, _⟩ => ⟨S16384x512, .bf16⟩
  | .local _ .vmem, ⟨16, _⟩ => ⟨S256x512, .i32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c256_i32 : BitVec 32 := 256#32
  let v47 : BitVec 32 := Scalar.addi c0_i32_28 c256_i32
  let c1_i32 : BitVec 32 := 1#32
  ⟨c0_i32_28, v47, c1_i32⟩
def k0_off1 (k0_t1 : Fin k0_t1_loop.trips) : Fin 2 → Nat :=
  let c0_i32_28 : BitVec 32 := 0#32
  let c1_i32 : BitVec 32 := 1#32
  let arg12 : BitVec 32 := Scf.iv c0_i32_28 c1_i32 k0_t1
  let c32_i32 : BitVec 32 := 32#32
  let v48 : BitVec 32 := Scalar.muli arg12 c32_i32
  let v49 : Index := Scalar.indexCast v48
  let c0_30 : Index := 0#32
  ![v49.toNat, 0]
def k0_off2 (k0_t1 : Fin k0_t1_loop.trips) : Fin 2 → Nat :=
  let c0_i32_28 : BitVec 32 := 0#32
  let c1_i32 : BitVec 32 := 1#32
  let arg12 : BitVec 32 := Scf.iv c0_i32_28 c1_i32 k0_t1
  let v51 : Index := Scalar.indexCast arg12
  let c0_31 : Index := 0#32
  ![v51.toNat, 0]
def k0_off3 (k0_t1 : Fin k0_t1_loop.trips) : Fin 2 → Nat :=
  let c0_i32_28 : BitVec 32 := 0#32
  let c1_i32 : BitVec 32 := 1#32
  let arg12 : BitVec 32 := Scf.iv c0_i32_28 c1_i32 k0_t1
  let c64_i32 : BitVec 32 := 64#32
  let v191 : BitVec 32 := Scalar.muli arg12 c64_i32
  let v192 : Index := Scalar.indexCast v191
  let c0_59 : Index := 0#32
  ![v192.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8192x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownIdeal.lean ====
abbrev S4096x16384 : Shape := ⟨2, ![4096, 16384]⟩
abbrev S4096x64 : Shape := ⟨2, ![4096, 64]⟩
abbrev S16 : Shape := ⟨1, ![16]⟩
abbrev S8192x8192 : Shape := ⟨2, ![8192, 8192]⟩
abbrev S256x8192 : Shape := ⟨2, ![256, 8192]⟩
abbrev S256x32 : Shape := ⟨2, ![256, 32]⟩
abbrev S64x8192 : Shape := ⟨2, ![64, 8192]⟩
abbrev S_ : Shape := ⟨0, ![]⟩
abbrev S128 : Shape := ⟨1, ![128]⟩
abbrev S1x128 : Shape := ⟨2, ![1, 128]⟩
abbrev S32x256 : Shape := ⟨2, ![32, 256]⟩
abbrev S32x256x1 : Shape := ⟨3, ![32, 256, 1]⟩
abbrev S4096x8192 : Shape := ⟨2, ![4096, 8192]⟩
abbrev S512x16384 : Shape := ⟨2, ![512, 16384]⟩
abbrev S512x64 : Shape := ⟨2, ![512, 64]⟩
abbrev S8192x512 : Shape := ⟨2, ![8192, 512]⟩
abbrev S256x512 : Shape := ⟨2, ![256, 512]⟩
abbrev S2x256x1 : Shape := ⟨3, ![2, 256, 1]⟩
abbrev S64x512 : Shape := ⟨2, ![64, 512]⟩
abbrev S512x512 : Shape := ⟨2, ![512, 512]⟩
abbrev S16384x512 : Shape := ⟨2, ![16384, 512]⟩
abbrev S256x2x512 : Shape := ⟨3, ![256, 2, 512]⟩
abbrev S256x1x512 : Shape := ⟨3, ![256, 1, 512]⟩
abbrev S256x256 : Shape := ⟨2, ![256, 256]⟩
abbrev S1x256x1 : Shape := ⟨3, ![1, 256, 1]⟩
abbrev S256x1 : Shape := ⟨2, ![256, 1]⟩
abbrev S256x2x256 : Shape := ⟨3, ![256, 2, 256]⟩
abbrev S256x1x256 : Shape := ⟨3, ![256, 1, 256]⟩
abbrev S32x512 : Shape := ⟨2, ![32, 512]⟩
abbrev S1x512 : Shape := ⟨2, ![1, 512]⟩
abbrev S1x2x512 : Shape := ⟨3, ![1, 2, 512]⟩
abbrev S1x1x512 : Shape := ⟨3, ![1, 1, 512]⟩
abbrev S32x128 : Shape := ⟨2, ![32, 128]⟩
abbrev S32x128x1 : Shape := ⟨3, ![32, 128, 1]⟩
abbrev S2x512 : Shape := ⟨2, ![2, 512]⟩

abbrev nBuf : Space → Nat
  | .hbm => 14
  | .vmem => 17
  | .smem => 0
  | _ => 0

abbrev bufTy : (tb : Table) → Fin (tcTables nBuf tb) → BufTy
  | .hbm, ⟨0, _⟩ => ⟨S4096x16384, .bf16⟩
  | .hbm, ⟨1, _⟩ => ⟨S4096x64, .bf16⟩
  | .hbm, ⟨2, _⟩ => ⟨S16, .f32⟩
  | .hbm, ⟨3, _⟩ => ⟨S8192x8192, .i8⟩
  | .hbm, ⟨4, _⟩ => ⟨S256x8192, .i8⟩
  | .hbm, ⟨5, _⟩ => ⟨S256x32, .f32⟩
  | .hbm, ⟨6, _⟩ => ⟨S64x8192, .bf16⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S32x256, .f32⟩
  | .hbm, ⟨12, _⟩ => ⟨S32x256x1, .f32⟩
  | .hbm, ⟨13, _⟩ => ⟨S4096x8192, .f32⟩
  | .local _ .vmem, ⟨0, _⟩ => ⟨S512x16384, .bf16⟩
  | .local _ .vmem, ⟨1, _⟩ => ⟨S512x16384, .bf16⟩
  | .local _ .vmem, ⟨2, _⟩ => ⟨S512x64, .bf16⟩
  | .local _ .vmem, ⟨3, _⟩ => ⟨S512x64, .bf16⟩
  | .local _ .vmem, ⟨4, _⟩ => ⟨S1x128, .f32⟩
  | .local _ .vmem, ⟨5, _⟩ => ⟨S8192x512, .i8⟩
  | .local _ .vmem, ⟨6, _⟩ => ⟨S8192x512, .i8⟩
  | .local _ .vmem, ⟨7, _⟩ => ⟨S256x512, .i8⟩
  | .local _ .vmem, ⟨8, _⟩ => ⟨S256x512, .i8⟩
  | .local _ .vmem, ⟨9, _⟩ => ⟨S2x256x1, .f32⟩
  | .local _ .vmem, ⟨10, _⟩ => ⟨S2x256x1, .f32⟩
  | .local _ .vmem, ⟨11, _⟩ => ⟨S64x512, .bf16⟩
  | .local _ .vmem, ⟨12, _⟩ => ⟨S64x512, .bf16⟩
  | .local _ .vmem, ⟨13, _⟩ => ⟨S512x512, .f32⟩
  | .local _ .vmem, ⟨14, _⟩ => ⟨S512x512, .f32⟩
  | .local _ .vmem, ⟨15, _⟩ => ⟨S16384x512, .bf16⟩
  | .local _ .vmem, ⟨16, _⟩ => ⟨S256x2x512, .bf16⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c256_i32 : BitVec 32 := 256#32
  let v47 : BitVec 32 := Scalar.addi c0_i32_28 c256_i32
  let c1_i32 : BitVec 32 := 1#32
  ⟨c0_i32_28, v47, c1_i32⟩
def k0_off1 (k0_t1 : Fin k0_t1_loop.trips) : Fin 2 → Nat :=
  let c0_i32_28 : BitVec 32 := 0#32
  let c1_i32 : BitVec 32 := 1#32
  let arg12 : BitVec 32 := Scf.iv c0_i32_28 c1_i32 k0_t1
  let c32_i32 : BitVec 32 := 32#32
  let v48 : BitVec 32 := Scalar.muli arg12 c32_i32
  let v49 : Index := Scalar.indexCast v48
  let c0_30 : Index := 0#32
  ![v49.toNat, 0]
def k0_off2 (k0_t1 : Fin k0_t1_loop.trips) : Fin 3 → Nat :=
  let c0_i32_28 : BitVec 32 := 0#32
  let c1_i32 : BitVec 32 := 1#32
  let arg12 : BitVec 32 := Scf.iv c0_i32_28 c1_i32 k0_t1
  let v51 : Index := Scalar.indexCast arg12
  let c0_31 : Index := 0#32
  ![v51.toNat, 0, 0]
def k0_off3 (k0_t1 : Fin k0_t1_loop.trips) : Fin 2 → Nat :=
  let c0_i32_28 : BitVec 32 := 0#32
  let c1_i32 : BitVec 32 := 1#32
  let arg12 : BitVec 32 := Scf.iv c0_i32_28 c1_i32 k0_t1
  let c64_i32 : BitVec 32 := 64#32
  let v191 : BitVec 32 := Scalar.muli arg12 c64_i32
  let v192 : Index := Scalar.indexCast v191
  let c0_59 : Index := 0#32
  ![v192.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8192x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownRefIdeal.lean ====
abbrev S4096x16384 : Shape := ⟨2, ![4096, 16384]⟩
abbrev S4096x64 : Shape := ⟨2, ![4096, 64]⟩
abbrev S16 : Shape := ⟨1, ![16]⟩
abbrev S8192x8192 : Shape := ⟨2, ![8192, 8192]⟩
abbrev S256x8192 : Shape := ⟨2, ![256, 8192]⟩
abbrev S256x32 : Shape := ⟨2, ![256, 32]⟩
abbrev S64x8192 : Shape := ⟨2, ![64, 8192]⟩
abbrev S_ : Shape := ⟨0, ![]⟩
abbrev S8192x1x8192 : Shape := ⟨3, ![8192, 1, 8192]⟩
abbrev S8192x2x8192 : Shape := ⟨3, ![8192, 2, 8192]⟩
abbrev S16384x8192 : Shape := ⟨2, ![16384, 8192]⟩
abbrev S256x32x256 : Shape := ⟨3, ![256, 32, 256]⟩
abbrev S256x32x1 : Shape := ⟨3, ![256, 32, 1]⟩
abbrev S16384x8192x1 : Shape := ⟨3, ![16384, 8192, 1]⟩
abbrev S256x64x8192 : Shape := ⟨3, ![256, 64, 8192]⟩
abbrev S256x1x8192 : Shape := ⟨3, ![256, 1, 8192]⟩
abbrev S4096x8192 : Shape := ⟨2, ![4096, 8192]⟩

abbrev nBuf : Space → Nat
  | .hbm => 44
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x64, .bf16⟩
  | .hbm, ⟨2, _⟩ => ⟨S16, .f32⟩
  | .hbm, ⟨3, _⟩ => ⟨S8192x8192, .i8⟩
  | .hbm, ⟨4, _⟩ => ⟨S256x8192, .i8⟩
  | .hbm, ⟨5, _⟩ => ⟨S256x32, .f32⟩
  | .hbm, ⟨6, _⟩ => ⟨S64x8192, .bf16⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x1x8192, .i32⟩
  | .hbm, ⟨15, _⟩ => ⟨S8192x1x8192, .i32⟩
  | .hbm, ⟨16, _⟩ => ⟨S8192x2x8192, .i32⟩
  | .hbm, ⟨17, _⟩ => ⟨S16384x8192, .i32⟩
  | .hbm, ⟨18, _⟩ => ⟨S256x8192, .i32⟩
  | .hbm, ⟨19, _⟩ => ⟨S256x8192, .f32⟩
  | .hbm, ⟨20, _⟩ => ⟨S256x32x256, .f32⟩
  | .hbm, ⟨21, _⟩ => ⟨S256x32x1, .f32⟩
  | .hbm, ⟨22, _⟩ => ⟨S256x32x256, .f32⟩
  | .hbm, ⟨23, _⟩ => ⟨S256x32x256, .f32⟩
  | .hbm, ⟨24, _⟩ => ⟨S256x8192, .f32⟩
  | .hbm, ⟨25, _⟩ => ⟨S256x8192, .bf16⟩
  | .hbm, ⟨26, _⟩ => ⟨S16, .bf16⟩
  | .hbm, ⟨27, _⟩ => ⟨S_, .i32⟩
  | .hbm, ⟨28, _⟩ => ⟨S16384x8192, .i32⟩
  | .hbm, ⟨29, _⟩ => ⟨S16384x8192, .i1⟩
  | .hbm, ⟨30, _⟩ => ⟨S_, .i32⟩
  | .hbm, ⟨31, _⟩ => ⟨S16384x8192, .i32⟩
  | .hbm, ⟨32, _⟩ => ⟨S16384x8192, .i32⟩
  | .hbm, ⟨33, _⟩ => ⟨S16384x8192, .i32⟩
  | .hbm, ⟨34, _⟩ => ⟨S16384x8192x1, .i32⟩
  | .hbm, ⟨35, _⟩ => ⟨S16384x8192, .bf16⟩
  | .hbm, ⟨36, _⟩ => ⟨S256x64x8192, .bf16⟩
  | .hbm, ⟨37, _⟩ => ⟨S256x1x8192, .bf16⟩
  | .hbm, ⟨38, _⟩ => ⟨S256x64x8192, .bf16⟩
  | .hbm, ⟨39, _⟩ => ⟨S256x64x8192, .bf16⟩
  | .hbm, ⟨40, _⟩ => ⟨S16384x8192, .bf16⟩
  | .hbm, ⟨41, _⟩ => ⟨S4096x8192, .f32⟩
  | .hbm, ⟨42, _⟩ => ⟨S4096x8192, .f32⟩
  | .hbm, ⟨43, _⟩ => ⟨S4096x8192, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.PrepAlg.lean ====
/- The preparation call: the two arrays it leaves, and their equality with the reference's. -/
module

public import proofs.«01_k».proof.Defs
public import proofs.«01_k».proof.Proof.Gen.PrepIdeal.Value
public import proofs.«01_k».proof.Proof.Gen.PrepRefIdeal.Read
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.PrepRefIdeal.Tile

open Cert.PrepRefIdeal Cert.PrepRefIdeal.Gen Cert.PrepRefIdeal.Read

/-- The reference's activations at an index. -/
theorem x_at (x0 : Vec Ideal S1x4096x8192 .f32) (r : Fin 4096) (k : Fin 8192) :
    val_main_v1 (F := Ideal) x0 (ix2 r k) = x0 (ix3 0 r k) := by
  pointwise [val_main_v1, val_main_v0]

/-- The reference's adapter product at an index. -/
theorem xa_at (x0 : Vec Ideal S1x4096x8192 .f32) (x1 : Vec Ideal S8192x64 .bf16) (r : Fin 4096) (j : Fin 64) :
    val_main_v5 (F := Ideal) x0 x1 (ix2 r j) =
      (∑ k : Fin 8192, (show EReal from x0 (ix3 0 r k)) * (show EReal from x1 (ix2 k j))) * Ideal.ofBits .bf16 0x3E80#16 := by
  pointwise [val_main_v5, val_main_v4, val_main_v3, val_main_v2, val_main_v1, val_main_v0, val_main_cst]

end Cert.PrepRefIdeal.Tile

namespace Cert.PrepIdeal.Tile

open Cert.PrepIdeal Cert.PrepIdeal.Gen

theorem hz : (![0, 0] : Fin 2 → Nat) = fun _ => 0 := funext fun a => by fin_cases a <;> rfl

/-- The first output's payload at an index. -/
theorem pay1_at (x : Vec Ideal S256x8192 .f32) (r : Fin 256) (k : Fin 8192) : k0_pay1 (F := Ideal) x (ix2 r k) = x (ix2 r k) := by
  pointwise [k0_pay1]

/-- The second output's payload at an index. -/
theorem pay2_at (x : Vec Ideal S256x8192 .f32) (a : Vec Ideal S8192x64 .bf16) (r : Fin 256) (j : Fin 64) :
    k0_pay2 (F := Ideal) x a (ix2 r j) =
      (∑ k : Fin 8192, (show EReal from x (ix2 r k)) * (show EReal from a (ix2 k j))) * Ideal.ofBits .bf16 0x3E80#16 := by
  pointwise [k0_pay2, k0_pay1]

/-- Where each window's block sits at a point. -/
theorem index_eq : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

section Blocks

variable (t : Fin cfg0.N)

/-- The rows of the activation block. -/
theorem blk0 (X : Vec Ideal S4096x8192 .f32) (r : Fin 256) (k : Fin 8192) (R : Fin 4096) (h : R.val = t.val * 256 + r.val) :
    ((cfg0.win 0).blk t).view.read (Elt Ideal) X (ix2 r k) = X (ix2 R k) :=
  congrArg X ((eq_ix2 _).trans ((ix2_inj ..).2
    ⟨Fin.ext ((Pipeline.Window.rect_emb_val (win0_0) t (ix2 r k) 0).trans (by rw [(index_eq t).1]; show t.val * 256 + r.val = R.val; omega)),
     Fin.ext ((Pipeline.Window.rect_emb_val (win0_0) t (ix2 r k) 1).trans (by rw [(index_eq t).1]; show 0 * 8192 + k.val = k.val; omega))⟩))

/-- The adapter's block is the adapter. -/
theorem blk1 (X : Vec Ideal S8192x64 .bf16) (k : Fin 8192) (j : Fin 64) :
    ((cfg0.win 1).blk t).view.read (Elt Ideal) X (ix2 k j) = X (ix2 k j) :=
  congrArg X ((eq_ix2 _).trans ((ix2_inj ..).2
    ⟨Fin.ext ((Pipeline.Window.rect_emb_val (win0_1) t (ix2 k j) 0).trans (by rw [(index_eq t).2.1]; show 0 * 8192 + k.val = k.val; omega)),
     Fin.ext ((Pipeline.Window.rect_emb_val (win0_1) t (ix2 k j) 1).trans (by rw [(index_eq t).2.1]; show 0 * 64 + j.val = j.val; omega))⟩))

/-- Where the first output's block sits. -/
theorem emb2 (r : Fin 256) (k : Fin 8192) (R : Fin 4096) (h : R.val = t.val * 256 + r.val) :
    ((cfg0.win 2).blk t).view.emb (ix2 r k) = ix2 R k :=
  (eq_ix2 _).trans ((ix2_inj ..).2
    ⟨Fin.ext ((Pipeline.Window.rect_emb_val (win0_2) t (ix2 r k) 0).trans (by rw [(index_eq t).2.2.1]; show t.val * 256 + r.val = R.val; omega)),
     Fin.ext ((Pipeline.Window.rect_emb_val (win0_2) t (ix2 r k) 1).trans (by rw [(index_eq t).2.2.1]; show 0 * 8192 + k.val = k.val; omega))⟩)

/-- Where the second output's block sits. -/
theorem emb3 (r : Fin 256) (k : Fin 64) (R : Fin 4096) (h : R.val = t.val * 256 + r.val) :
    ((cfg0.win 3).blk t).view.emb (ix2 r k) = ix2 R k :=
  (eq_ix2 _).trans ((ix2_inj ..).2
    ⟨Fin.ext ((Pipeline.Window.rect_emb_val (win0_3) t (ix2 r k) 0).trans (by rw [(index_eq t).2.2.2]; show t.val * 256 + r.val = R.val; omega)),
     Fin.ext ((Pipeline.Window.rect_emb_val (win0_3) t (ix2 r k) 1).trans (by rw [(index_eq t).2.2.2]; show 0 * 64 + k.val = k.val; omega))⟩)

theorem t_lt : t.val < 16 := Nat.lt_of_lt_of_eq t.isLt N_0

end Blocks

/-- The point whose block holds row `r`. -/
abbrev ptOf (r : Fin 4096) : Fin cfg0.N := ⟨r.val / 256, Nat.lt_of_lt_of_eq (by omega) N_0.symm⟩

variable (m : (ℓ : Loc nD τ sig) → Buf (Elt Ideal) ℓ) (c : Dev nD)

/-- The leading unit axis dropped. -/
theorem reshape_at (X : Vec Ideal S1x4096x8192 .f32) (r : Fin 4096) (k : Fin 8192) :
    shapeCast S4096x8192 X shapeCasts_S1x4096x8192_S4096x8192 (ix2 r k) = X (ix3 0 r k) := by
  pointwise []

/-- The activations the region finds are the argument's, reshaped. -/
theorem V_x (r : Fin 4096) (k : Fin 8192) : (V m c main_v0 : Vec Ideal S4096x8192 .f32) (ix2 r k)
    = (m ((c : Thread nD τ).loc main_arg0) : Vec Ideal S1x4096x8192 .f32) (ix3 0 r k) := by
  have e : V m c main_v0 = shapeCast S4096x8192 (m ((c : Thread nD τ).loc main_arg0) : Vec Ideal S1x4096x8192 .f32) shapeCasts_S1x4096x8192_S4096x8192 := by
    show StableHlo.after [hostOps0].flatten (fun b => m (c, b)) (Proc.tc.devRef main_v0) = _
    simp only [hostOps0, List.flatten_cons, List.flatten_nil, List.append_nil, List.cons_append, List.nil_append]
    after_results_simp
    rfl
  exact (congrFun e _).trans (reshape_at _ r k)

/-- The first array after the run. -/
theorem final2 : (dats m 0 c).arrAt 2 cfg0.N = Cert.PrepRefIdeal.Read.val_main_v1 (F := Ideal) (m ((c : Thread nD τ).loc main_arg0)) :=
  (dats m 0 c).arrAt_eq_of_cover 2 _ (fun t hf => by
    rw [Value.flushed2]
    funext y
    obtain ⟨r, k, rfl⟩ : ∃ (r : Fin 256) (k : Fin 8192), y = ix2 r k := ⟨y 0, y 1, eq_ix2 y⟩
    have ht := t_lt t
    show out0_2 (iblk m c 0 t) (iblk m c 1 t) (ix2 r k) = Cert.PrepRefIdeal.Read.val_main_v1 (F := Ideal) (m ((c : Thread nD τ).loc main_arg0)) (((cfg0.win 2).blk t).view.emb (ix2 r k))
    rw [emb2 t r k ⟨t.val * 256 + r.val, by omega⟩ rfl]
    refine Eq.trans ?_ (Cert.PrepRefIdeal.Tile.x_at _ _ k).symm
    unfold out0_2
    rw [View.canon_unit_zero hz]
    refine (pay1_at _ r k).trans ?_
    rw [View.ld_unit_zero (S := S256x8192) hz]
    exact (blk0 t (V m c main_v0) r k _ rfl).trans (V_x m c _ k))
    (fun i => ⟨ptOf (i 0), flush0_2 _, by
      have h0 : (i 0).val < 4096 := (i 0).isLt
      have e : ((cfg0.win 2).blk (ptOf (i 0))).view.emb (ix2 ⟨(i 0).val % 256, Nat.mod_lt _ (by norm_num)⟩ (i 1)) = i :=
        (emb2 _ _ _ (i 0) (by show (i 0).val = (i 0).val / 256 * 256 + (i 0).val % 256; omega)).trans (eq_ix2 i).symm
      have h := View.emb_mem_set ((cfg0.win 2).blk (ptOf (i 0))).view (ix2 ⟨(i 0).val % 256, Nat.mod_lt _ (by norm_num)⟩ (i 1))
      rw [e] at h
      exact h⟩)

/-- The second array after the run. -/
theorem final3 : (dats m 0 c).arrAt 3 cfg0.N = Cert.PrepRefIdeal.Read.val_main_v5 (F := Ideal) (m ((c : Thread nD τ).loc main_arg0))
    (m ((c : Thread nD τ).loc main_arg1)) :=
  (dats m 0 c).arrAt_eq_of_cover 3 _ (fun t hf => by
    rw [Value.flushed3]
    funext y
    obtain ⟨r, k, rfl⟩ : ∃ (r : Fin 256) (k : Fin 64), y = ix2 r k := ⟨y 0, y 1, eq_ix2 y⟩
    have ht := t_lt t
    show out0_3 (iblk m c 0 t) (iblk m c 1 t) (ix2 r k) = Cert.PrepRefIdeal.Read.val_main_v5 (F := Ideal) (m ((c : Thread nD τ).loc main_arg0))
      (m ((c : Thread nD τ).loc main_arg1)) (((cfg0.win 3).blk t).view.emb (ix2 r k))
    rw [emb3 t r k ⟨t.val * 256 + r.val, by omega⟩ rfl]
    refine Eq.trans ?_ (Cert.PrepRefIdeal.Tile.xa_at _ _ _ k).symm
    unfold out0_3
    rw [View.canon_unit_zero hz, View.ld_unit_zero (S := S256x8192) hz, View.ld_unit_zero (S := S8192x64) hz]
    refine (pay2_at _ _ r k).trans ?_
    refine congrArg (fun a : EReal => a * Ideal.ofBits .bf16 0x3E80#16) (Finset.sum_congr rfl fun l _ => ?_)
    exact congrArg₂ (fun a b : EReal => a * b) ((blk0 t (V m c main_v0) r l _ rfl).trans (V_x m c _ l))
      ((blk1 t (V m c main_arg1) l k).trans (congrFun (V_main_arg1 m c) _)))
    (fun i => ⟨ptOf (i 0), flush0_3 _, by
      have h0 : (i 0).val < 4096 := (i 0).isLt
      have e : ((cfg0.win 3).blk (ptOf (i 0))).view.emb (ix2 ⟨(i 0).val % 256, Nat.mod_lt _ (by norm_num)⟩ (i 1)) = i :=
        (emb3 _ _ _ (i 0) (by show (i 0).val = (i 0).val / 256 * 256 + (i 0).val % 256; omega)).trans (eq_ix2 i).symm
      have h := View.emb_mem_set ((cfg0.win 3).blk (ptOf (i 0))).view (ix2 ⟨(i 0).val % 256, Nat.mod_lt _ (by norm_num)⟩ (i 1))
      rw [e] at h
      exact h⟩)

end Cert.PrepIdeal.Tile

/-- The preparation kernel and its reference end with equal results. -/
theorem Cert.Proof.algebraic_prep : Cert.algebraic_PrepIdeal_PrepRefIdeal := by
  intro m g m' g' _ hagree
  refine ⟨fun c => Cert.PrepRefIdeal.Read.val_main_v1 (F := Ideal) (m ((c.tc : Thread Cert.PrepIdeal.nD Cert.PrepIdeal.τ).loc Cert.PrepIdeal.main_arg0)),
    fun c => Cert.PrepRefIdeal.Read.val_main_v5 (F := Ideal) (m ((c.tc : Thread Cert.PrepIdeal.nD Cert.PrepIdeal.τ).loc Cert.PrepIdeal.main_arg0))
      (m ((c.tc : Thread Cert.PrepIdeal.nD Cert.PrepIdeal.τ).loc Cert.PrepIdeal.main_arg1)), ?_, ?_⟩
  · exact (θ_run _ _ _).mono (fun r h c => ⟨(h c).1.trans (Cert.PrepIdeal.Tile.final2 m c), (h c).2.1.trans (Cert.PrepIdeal.Tile.final3 m c), (h c).2.2⟩)
      (Cert.PrepIdeal.Value.run_blocks m g)
  · refine (θ_run _ _ _).mono (fun r h c => ⟨(h c).1.trans ?_, (h c).2.1.trans ?_, (h c).2.2⟩) (Cert.PrepRefIdeal.Value.run m' g')
    · refine (Cert.PrepRefIdeal.Read.val_main_v1_eq _).trans ?_
      rw [(hagree c).1]
    · refine (Cert.PrepRefIdeal.Read.val_main_v5_eq _ _).trans ?_
      rw [(hagree c).1, (hagree c).2]

end
-- ==== Proof.DownTile.lean ====
/- What one trip of the down projection's dequantisation loop stores, element by element. -/
module

public import proofs.«01_k».proof.Proof.Gen.DownIdeal.Skeleton
public import Idealize.ShloMosaic.Lib.Pointwise

@[expose] public section

set_option maxRecDepth 16384

noncomputable section

open Idealize.ShloMosaic Idealize.ShloMosaic.TcCoe Idealize.SL.Sem

namespace Cert.DownIdeal.Tile

open Cert.DownIdeal Cert.DownIdeal.Gen

/-- The four-bit code of parity `p` in the byte `b`: the low four bits (`p = 0`) or the high four. -/
def nib (p : Nat) (b : BitVec 8) : Fin 16 :=
  if p = 0 then ⟨b.toNat % 16, Nat.mod_lt _ (by norm_num)⟩ else ⟨b.toNat / 16, by have := b.isLt; omega⟩

/-- The index a lane gathers by for a byte's low code: the wrap of a negative index is never taken. -/
theorem lo_sel (b : BitVec 8) :
    (Scalar.select (IntOp.cmpi CmpIPredicate.slt (IntOp.andi (BitVec.setWidth 32 b) 15#32) 0#32)
      (IntOp.addi (IntOp.andi (BitVec.setWidth 32 b) 15#32) 128#32)
      (IntOp.andi (BitVec.setWidth 32 b) 15#32)).toNat % 128 = (nib 0 b).val := by
  revert b; decide +kernel

/-- The same for a byte's high code. -/
theorem hi_sel (b : BitVec 8) :
    (Scalar.select (IntOp.cmpi CmpIPredicate.slt (IntOp.shrui ArithUnit.vector (BitVec.setWidth 32 b) 4#32) 0#32)
      (IntOp.addi (IntOp.shrui ArithUnit.vector (BitVec.setWidth 32 b) 4#32) 128#32)
      (IntOp.shrui ArithUnit.vector (BitVec.setWidth 32 b) 4#32)).toNat % 128 = (nib 1 b).val := by
  revert b; decide +kernel

/-- Four groups of 128 columns picked by the column's group are the columns themselves. -/
theorem pick4 {α : Type} (f : Fin 512 → α) (j : Fin 512) :
    (if h : j.val < 128 then f j else
      if h1 : j.val - 128 < 128 then f ⟨128 + (j.val - 128), by omega⟩ else
        if h2 : j.val - 128 - 128 < 128 then f ⟨256 + (j.val - 128 - 128), by omega⟩ else
          f ⟨384 + (j.val - 128 - 128 - 128), by omega⟩) = f j := by
  split_ifs
  · rfl
  all_goals exact congrArg f (Fin.ext (by simp only; omega))

/-- The rows a trip stores, as one function of the table, the codes and the absmax row it loads. -/
def tripPay (v46 : FVec Ideal S1x128 .f32) (v50 : Vec Ideal S32x512 .i8) (v52 : Vec Ideal S1x2x512 .bf16) :
    FVec Ideal S64x512 .bf16 :=
  k0_pay1 (k0_pay3 v52) (k0_pay4 v52) (k0_pay7 v50) (k0_pay8 v46) (k0_pay9 v46 v50) (k0_pay10 v46 v50)
    (k0_pay12 (k0_pay8 v46) (k0_pay11 v50)) (k0_pay13 (k0_pay7 v50) (k0_pay8 v46))
    (k0_pay14 (k0_pay6 v50) (k0_pay8 v46)) (k0_pay15 (k0_pay7 v50) (k0_pay8 v46)) (k0_pay16 (k0_pay6 v50))

/-- Stored row `r`, column `j`: the table's value at the code of `r`'s parity `p` in byte row `r / 2`, times the
    absmax row's value at `j`. -/
theorem tripPay_at (v46 : FVec Ideal S1x128 .f32) (v50 : Vec Ideal S32x512 .i8) (v52 : Vec Ideal S1x2x512 .bf16)
    (r : Fin 64) (j : Fin 512)
    (p : Nat) (hp : r.val % 2 = p) :
    tripPay v46 v50 v52 (ix2 r j) =
      (show EReal from v46 (ix2 0 ((nib p (v50 (ix2 ⟨r.val / 2, by omega⟩ j))).castLE (by norm_num)))) *
        (show EReal from v52 (ix3 0 0 j)) := by
  pointwise [tripPay, k0_pay1, k0_pay3, k0_pay4, k0_pay5, k0_pay6, k0_pay7, k0_pay8, k0_pay9, k0_pay10, k0_pay11,
    k0_pay12, k0_pay13, k0_pay14, k0_pay15, k0_pay16, lo_sel, hi_sel]
  have hr : p = 0 ∨ p = 1 := by omega
  rcases hr with rfl | rfl
  · rw [if_pos hp]
    rw [pick4 (fun l : Fin 512 => v46 (ix2 0 ⟨(nib 0 (v50 (ix2 ⟨r.val / 2, by omega⟩ l))).val, by omega⟩)) j]
    rfl
  · rw [if_neg (by omega)]
    rw [pick4 (fun l : Fin 512 => v46 (ix2 0 ⟨(nib 1 (v50 (ix2 ⟨r.val / 2, by omega⟩ l))).val, by omega⟩)) j]
    rfl

end Cert.DownIdeal.Tile

end
-- ==== Proof.DownFill.lean ====
/- What the down projection's dequantisation loop leaves in its weight scratch. -/
module

public import proofs.«01_k».proof.Proof.Gen.DownIdeal.Loops
public import proofs.«01_k».proof.Proof.DownTile
public import Idealize.ShloMosaic.Lib.Pipeline.Value

@[expose] public section

set_option maxRecDepth 16384

noncomputable section

open Idealize.ShloMosaic Idealize.ShloMosaic.TcCoe Idealize.SL.Sem

namespace Cert.DownIdeal.Tile

open Cert.DownIdeal Cert.DownIdeal.Gen

/-- The dequantised weight tile: row `r` column `j` is the table at the code of parity `r % 2` in byte row `r / 2`,
    times row `r / 64` of the absmax rows. -/
def wfill (tab : FVec Ideal S1x128 .f32) (codes : Vec Ideal S8192x512 .i8) (am : Vec Ideal S256x2x512 .bf16) :
    Vec Ideal S16384x512 .bf16 := fun y =>
  (show EReal from tab (ix2 0 ((nib ((y 0).val % 2) (codes (ix2 ⟨(y 0).val / 2, by have := (y 0).isLt; simp at this; omega⟩ (y 1)))).castLE (by norm_num)))) *
    (show EReal from am (ix3 ⟨(y 0).val / 64, by have := (y 0).isLt; simp at this; omega⟩ 0 (y 1)))

/-- The tile read at an index given by its coordinates. -/
theorem wfill_at (tab : FVec Ideal S1x128 .f32) (codes : Vec Ideal S8192x512 .i8) (am : Vec Ideal S256x2x512 .bf16)
    (y : S16384x512.Idx) (r : Nat) (j : Fin 512) (p : Nat) (hr : r < 16384) (hp : r % 2 = p) (h0 : (y 0).val = r) (h1 : y 1 = j) :
    wfill tab codes am y = (show EReal from tab (ix2 0 ((nib p (codes (ix2 ⟨r / 2, by omega⟩ j))).castLE (by norm_num)))) *
      (show EReal from am (ix3 ⟨r / 64, by omega⟩ 0 j)) := by
  subst hp h0 h1
  rfl

section Loop

variable (𝒱 : Variants) (c : Dev nD) (bd : Option 𝒱.V) (i : grid0.Coords)
  (arg2 : Memref sig .tc .vmem S512x16384 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S8192x512 .i8) (harg5 : arg5.IsWhole)
  (arg6 : Memref sig .tc .vmem S256x512 .i8) (harg6 : arg6.IsWhole) (arg7 : Memref sig .tc .vmem S2x256x1 .f32) (harg7 : arg7.IsWhole)
  (arg8 : Memref sig .tc .vmem S64x512 .bf16) (harg8 : arg8.IsWhole) (arg9 : Memref sig .tc .vmem S512x512 .f32) (harg9 : arg9.IsWhole)
  (arg10 : Memref sig .tc .vmem S16384x512 .bf16) (harg10 : arg10.IsWhole) (arg11 : Memref sig .tc .vmem S256x2x512 .bf16) (harg11 : arg11.IsWhole)
  (k0_h1 : k0_cond1 i = 1#1) (v46 : FVec Ideal S1x128 .f32) (b0 : BitVec 32)
  (X5 : BufTy.Contents (Elt Ideal) arg5.view.ty) (X11 : BufTy.Contents (Elt Ideal) arg11.view.ty)

/-- The piece trip `k` writes. -/
theorem trip_eq (k : Fin k0_t1_loop.trips) :
    tripL_k0_t1 (F := Ideal) 𝒱 c bd i arg2 harg2 arg3 harg3 arg4 harg4 arg5 harg5 arg6 harg6 arg7 harg7 arg8 harg8 arg9 harg9
      arg10 harg10 arg11 harg11 k0_h1 v46 b0 X5 X11 k
      = [⟨Rect.unit (s := S16384x512) (k0_off3 k) S64x512.size (k0_off3_inb i k k0_h1),
          tripPay v46
            (arg5.view.readAt (Elt Ideal) (Rect.unit (s := S8192x512) (k0_off1 k) S32x512.size (k0_off1_inb i k k0_h1)).toLoadRect X5)
            (arg11.view.readAt (Elt Ideal) (Rect.unit (s := S256x2x512) (k0_off2 k) S1x2x512.size (k0_off2_inb i k k0_h1)).toLoadRect X11)⟩] := by
  unfold tripL_k0_t1 trip_k0_t1
  rfl

/-- Every piece of the first `n` trips is a block of the dequantised tile. -/
theorem pb_pieces (n : Nat) (hn : n ≤ k0_t1_loop.trips) :
    ∀ p ∈ pb_k0_t1 (F := Ideal) 𝒱 c bd i arg2 harg2 arg3 harg3 arg4 harg4 arg5 harg5 arg6 harg6 arg7 harg7 arg8 harg8 arg9 harg9
      arg10 harg10 arg11 harg11 k0_h1 v46 b0 X5 X11 n, ∀ x : p.1.shape.Idx,
      p.2 x = wfill v46 (arg5.view.read (Elt Ideal) X5) (arg11.view.read (Elt Ideal) X11) (p.1.emb x) := by
  induction n with
  | zero => intro p hp; exact absurd hp List.not_mem_nil
  | succ n ih =>
    intro p hp x
    rw [pb_k0_t1_succ (F := Ideal) 𝒱 c bd i arg2 harg2 arg3 harg3 arg4 harg4 arg5 harg5 arg6 harg6 arg7 harg7 arg8 harg8 arg9 harg9
      arg10 harg10 arg11 harg11 k0_h1 v46 b0 X5 X11 ⟨n, hn⟩, trip_eq] at hp
    rcases List.mem_cons.mp hp with rfl | hp
    · have hk : n < 256 := Nat.lt_of_lt_of_le hn k0_t1_abs.2.1
      obtain ⟨r, j, rfl⟩ : ∃ (r : Fin 64) (j : Fin 512), x = ix2 r j := ⟨x 0, x 1, eq_ix2 x⟩
      refine (tripPay_at _ _ _ r j _ rfl).trans ?_
      have e0 : ((Rect.unit (s := S16384x512) (k0_off3 ⟨n, hn⟩) S64x512.size (k0_off3_inb i ⟨n, hn⟩ k0_h1)).emb (ix2 r j) 0).val
          = 64 * n + r.val := by
        show (k0_off3 ⟨n, hn⟩) 0 + 1 * r.val = _
        rw [k0_off3_eq]; simp
      have e1 : ((Rect.unit (s := S16384x512) (k0_off3 ⟨n, hn⟩) S64x512.size (k0_off3_inb i ⟨n, hn⟩ k0_h1)).emb (ix2 r j) 1)
          = j := by
        refine Fin.ext ?_
        show (k0_off3 ⟨n, hn⟩) 1 + 1 * j.val = _
        rw [k0_off3_eq]; simp
      have ec : (Rect.unit (s := S8192x512) (k0_off1 ⟨n, hn⟩) S32x512.size (k0_off1_inb i ⟨n, hn⟩ k0_h1)).idx
          (ix2 ⟨r.val / 2, by omega⟩ j) = ix2 ⟨(64 * n + r.val) / 2, by omega⟩ j := by
        refine (eq_ix2 _).trans ((ix2_inj ..).2 ⟨Fin.ext ?_, Fin.ext ?_⟩)
        · show (k0_off1 ⟨n, hn⟩) 0 + 1 * (r.val / 2) = _
          rw [k0_off1_eq]; simp; omega
        · show (k0_off1 ⟨n, hn⟩) 1 + 1 * j.val = _
          rw [k0_off1_eq]; simp
      have ea : (Rect.unit (s := S256x2x512) (k0_off2 ⟨n, hn⟩) S1x2x512.size (k0_off2_inb i ⟨n, hn⟩ k0_h1)).idx
          (ix3 0 0 j) = ix3 ⟨(64 * n + r.val) / 64, by omega⟩ 0 j := by
        refine (eq_ix3 _).trans ((ix3_inj ..).2 ⟨Fin.ext ?_, Fin.ext ?_, Fin.ext ?_⟩)
        · show (k0_off2 ⟨n, hn⟩) 0 + 1 * 0 = _
          rw [k0_off2_eq]; simp; omega
        · show (k0_off2 ⟨n, hn⟩) 1 + 1 * 0 = _
          rw [k0_off2_eq]; simp
        · show (k0_off2 ⟨n, hn⟩) 2 + 1 * j.val = _
          rw [k0_off2_eq]; simp
      refine (congrArg₂ (fun (a : BitVec 8) (b : EReal) =>
        (show EReal from v46 (ix2 0 ((nib (r.val % 2) a).castLE (by norm_num)))) * b)
        (congrArg (arg5.view.read (Elt Ideal) X5) ec) (congrArg (arg11.view.read (Elt Ideal) X11) ea)).trans ?_
      exact (wfill_at _ _ _ _ (64 * n + r.val) j (r.val % 2) (by omega) (by omega) e0 e1).symm
    · exact ih (Nat.le_of_succ_le hn) p hp x

end Loop

end Cert.DownIdeal.Tile

end
-- ==== Proof.DownCase.lean ====
/- What the body of the down projection leaves at a grid point, in each of its two cases. -/
module

public import proofs.«01_k».proof.Proof.Gen.DownIdeal.Frame
public import proofs.«01_k».proof.Proof.DownFill
public import Idealize.ShloMosaic.Lib.Pipeline.Value

@[expose] public section

set_option maxRecDepth 16384

noncomputable section

open Idealize.ShloMosaic Idealize.ShloMosaic.TcCoe Idealize.SL.Sem

namespace Cert.DownIdeal.Tile

open Cert.DownIdeal Cert.DownIdeal.Gen

theorem hz : (![0, 0] : Fin 2 → Nat) = fun _ => 0 := funext fun a => by fin_cases a <;> rfl

/-- The absmax pair rows the body stores: both rows of group `g` hold the code times its group's scale. -/
def amfill (c8 : Vec Ideal S256x512 .i8) (s2 : Vec Ideal S2x256x1 .f32) : Vec Ideal S256x2x512 .bf16 := fun y =>
  (show EReal from FloatOps.sitofp (F := Ideal) .f32 (c8 (ix2 (y 0) (y 2)))) *
    (show EReal from s2 (ix3 ⟨(y 2).val / 256, by have := (y 2).isLt; simp at this; omega⟩ (y 0) 0))

/-- It read at an index given by its coordinates. -/
theorem amfill_at (c8 : Vec Ideal S256x512 .i8) (s2 : Vec Ideal S2x256x1 .f32) (y : S256x2x512.Idx) (g : Fin 256) (j : Fin 512)
    (s : Fin 2) (h0 : (y 0).val = g.val) (h2 : (y 2).val = j.val) (hs : j.val / 256 = s.val) :
    amfill c8 s2 y = (show EReal from FloatOps.sitofp (F := Ideal) .f32 (c8 (ix2 g j))) * (show EReal from s2 (ix3 s g 0)) := by
  obtain rfl : y 0 = g := Fin.ext h0
  obtain rfl : y 2 = j := Fin.ext h2
  have es : (⟨(y 2).val / 256, by have := (y 2).isLt; simp at this; omega⟩ : Fin 2) = s := Fin.ext hs
  rw [← es]
  rfl

/-- The first store's payload at an index: the code times its group's scale, on both rows. -/
theorem pay17_at (v11 : Vec Ideal S256x256 .i8) (v13 : Vec Ideal S1x256x1 .f32) (g : Fin 256) (q : Fin 2) (j : Fin 256) :
    k0_pay17 (F := Ideal) v11 v13 (ix3 g q j) = (show EReal from FloatOps.sitofp (F := Ideal) .f32 (v11 (ix2 g j))) *
      (show EReal from v13 (ix3 0 g 0)) := by
  pointwise [k0_pay17]
  exact ite_self _

/-- The second store's, the same. -/
theorem pay18_at (v11 : Vec Ideal S256x256 .i8) (v13 : Vec Ideal S1x256x1 .f32) (g : Fin 256) (q : Fin 2) (j : Fin 256) :
    k0_pay18 (F := Ideal) v11 v13 (ix3 g q j) = (show EReal from FloatOps.sitofp (F := Ideal) .f32 (v11 (ix2 g j))) *
      (show EReal from v13 (ix3 0 g 0)) :=
  pay17_at v11 v13 g q j

section Case

variable (c : Dev nD) (i : grid0.Coords)
  (arg2 : Memref sig .tc .vmem S512x16384 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S8192x512 .i8) (harg5 : arg5.IsWhole)
  (arg6 : Memref sig .tc .vmem S256x512 .i8) (harg6 : arg6.IsWhole) (arg7 : Memref sig .tc .vmem S2x256x1 .f32) (harg7 : arg7.IsWhole)
  (arg8 : Memref sig .tc .vmem S64x512 .bf16) (harg8 : arg8.IsWhole) (arg9 : Memref sig .tc .vmem S512x512 .f32) (harg9 : arg9.IsWhole)
  (arg10 : Memref sig .tc .vmem S16384x512 .bf16) (harg10 : arg10.IsWhole) (arg11 : Memref sig .tc .vmem S256x2x512 .bf16) (harg11 : arg11.IsWhole)
  (x0 : Vec Ideal S512x16384 .bf16) (x1 : Vec Ideal S512x64 .bf16) (x2 : Vec Ideal S1x128 .f32) (x3 : Vec Ideal S8192x512 .i8)
  (x4 : Vec Ideal S256x512 .i8) (x5 : Vec Ideal S2x256x1 .f32) (x6 : Vec Ideal S64x512 .bf16)

/-- The two stores of absmax pairs leave `amfill`. -/
theorem am_canon : View.canon (kernelRun0_A.sl.HS1_2 (F := Ideal) c arg6 harg6 arg7 harg7 x4 x5) = amfill x4 x5 := by
  sl_unfold_words
  simp only [View.readAt_eq_ld, harg6.read_unread, harg7.read_unread]
  funext y
  refine View.canon_apply_of_pieces (amfill x4 x5) _ ?_ y ?_
  · intro p hp x
    rcases List.mem_cons.mp hp with rfl | hp
    · obtain ⟨g, q, j, rfl⟩ : ∃ (g : Fin 256) (q : Fin 2) (j : Fin 256), x = ix3 g q j := ⟨x 0, x 1, x 2, eq_ix3 x⟩
      refine (pay18_at _ _ g q j).trans ?_
      refine Eq.trans ?_ (amfill_at x4 x5 _ g ⟨256 + j.val, by omega⟩ 1 (by show 0 + 1 * g.val = _; omega) (by show 256 + 1 * j.val = 256 + j.val; omega)
        (by show (256 + j.val) / 256 = 1; omega)).symm
      refine congrArg₂ (fun (a : BitVec 8) (b : EReal) => (show EReal from FloatOps.sitofp (F := Ideal) .f32 a) * b)
        (congrArg x4 ?_) (congrArg x5 ?_)
      · exact (eq_ix2 _).trans ((ix2_inj ..).2 ⟨Fin.ext (by show 0 + 1 * g.val = _; omega), Fin.ext (by show 256 + 1 * j.val = _; simp)⟩)
      · exact (eq_ix3 _).trans ((ix3_inj ..).2 ⟨Fin.ext (by show 1 + 1 * 0 = _; simp), Fin.ext (by show 0 + 1 * g.val = _; omega),
          Fin.ext (by show 0 + 1 * 0 = _; simp)⟩)
    · obtain rfl := List.mem_singleton.mp hp
      obtain ⟨g, q, j, rfl⟩ : ∃ (g : Fin 256) (q : Fin 2) (j : Fin 256), x = ix3 g q j := ⟨x 0, x 1, x 2, eq_ix3 x⟩
      refine (pay17_at _ _ g q j).trans ?_
      refine Eq.trans ?_ (amfill_at x4 x5 _ g ⟨j.val, by omega⟩ 0 (by show 0 + 1 * g.val = _; omega) (by show 0 + 1 * j.val = _; simp)
        (by show j.val / 256 = 0; omega)).symm
      refine congrArg₂ (fun (a : BitVec 8) (b : EReal) => (show EReal from FloatOps.sitofp (F := Ideal) .f32 a) * b)
        (congrArg x4 ?_) (congrArg x5 ?_)
      · exact (eq_ix2 _).trans ((ix2_inj ..).2 ⟨Fin.ext (by show 0 + 1 * g.val = _; omega), Fin.ext (by show 0 + 1 * j.val = _; simp)⟩)
      · exact (eq_ix3 _).trans ((ix3_inj ..).2 ⟨Fin.ext (by show 0 + 1 * 0 = _; simp), Fin.ext (by show 0 + 1 * g.val = _; omega),
          Fin.ext (by show 0 + 1 * 0 = _; simp)⟩)
  · have h0 : (y 0).val < 256 := (y 0).isLt
    have h1 : (y 1).val < 2 := (y 1).isLt
    have h2 : (y 2).val < 512 := (y 2).isLt
    by_cases hj : (y 2).val < 256
    · refine ⟨_, List.mem_cons_of_mem _ (List.mem_singleton_self _), ?_⟩
      refine (Rect.mem_set_unit (inb := inb_S256x2x512_S256x2x256_0_0_0)).2 fun a => ?_
      match a with
      | ⟨0, _⟩ => exact ⟨Nat.zero_le _, by show (y 0).val < 0 + 256; omega⟩
      | ⟨1, _⟩ => exact ⟨Nat.zero_le _, by show (y 1).val < 0 + 2; omega⟩
      | ⟨2, _⟩ => exact ⟨Nat.zero_le _, by show (y 2).val < 0 + 256; omega⟩
    · refine ⟨_, List.mem_cons_self, ?_⟩
      refine (Rect.mem_set_unit (inb := inb_S256x2x512_S256x2x256_0_0_256)).2 fun a => ?_
      match a with
      | ⟨0, _⟩ => exact ⟨Nat.zero_le _, by show (y 0).val < 0 + 256; omega⟩
      | ⟨1, _⟩ => exact ⟨Nat.zero_le _, by show (y 1).val < 0 + 2; omega⟩
      | ⟨2, _⟩ => exact ⟨by show 256 ≤ (y 2).val; omega, by show (y 2).val < 256 + 256; omega⟩

/-- The table row the loop reads. -/
theorem tab_eq : kernelRun0_A.sl.r (F := Ideal) c arg4 harg4 x2 = x2 := by
  sl_unfold_words
  simp only [k0_pay19, View.readAt_eq_ld, harg4.read_unread, View.ld_unit_zero (S := S1x128) hz, shapeCast_self]

include x0 x1 x6 in
/-- The pieces of the loop, over the stored absmax pairs, leave the dequantised tile. -/
theorem loop_canon (hc0 : cond0_0 i) :
    View.canon (pb_k0_t1 (F := Ideal) Variants.none c none i arg2 harg2 arg3 harg3 arg4 harg4 arg5 harg5 arg6 harg6 arg7 harg7 arg8 harg8 arg9 harg9
      arg10 harg10 arg11 harg11 hc0
      (kernelRun0_A.sl.r c arg4 harg4 x2) (0#32) (harg5.unread x3)
      (arg11.view.writes (Elt Ideal) arg11.view.junk (kernelRun0_A.sl.HS1_2 c arg6 harg6 arg7 harg7 x4 x5)) k0_t1_loop.trips)
      = wfill x2 x3 (amfill x4 x5) := by
  funext y
  refine (View.canon_apply_of_pieces _ _ (pb_pieces Variants.none c none i arg2 harg2 arg3 harg3 arg4 harg4 arg5 harg5 arg6 harg6 arg7 harg7 arg8 harg8 arg9 harg9
      arg10 harg10 arg11 harg11 hc0
      _ _ _ _ k0_t1_loop.trips le_rfl) y
    (scover0_A_0 c i arg2 harg2 arg3 harg3 arg4 harg4 arg5 harg5 arg6 harg6 arg7 harg7 arg8 harg8 arg9 harg9
      arg10 harg10 arg11 harg11 hc0 x0 x1 x2 x3 x4 x5 x6 y)).trans ?_
  rw [tab_eq, harg5.read_unread, View.read_writes_junk_eq_canon, am_canon]

/-- After a point that starts a column block, the weight scratch holds the block's dequantised tile. -/
theorem sout_A (hc0 : cond0_0 i) :
    sout0_A_0 c i arg2 harg2 arg3 harg3 arg4 harg4 arg5 harg5 arg6 harg6 arg7 harg7 arg8 harg8 arg9 harg9
      arg10 harg10 arg11 harg11 hc0 x0 x1 x2 x3 x4 x5 x6 = wfill x2 x3 (amfill x4 x5) := by
  unfold sout0_A_0
  rw [View.read_writes_eq_canon _ _ _ (scover0_A_0 c i arg2 harg2 arg3 harg3 arg4 harg4 arg5 harg5 arg6 harg6 arg7 harg7 arg8 harg8 arg9 harg9
      arg10 harg10 arg11 harg11 hc0 x0 x1 x2 x3 x4 x5 x6)]
  unfold kernelRun0_A
  dsimp only
  exact loop_canon c i arg2 harg2 arg3 harg3 arg4 harg4 arg5 harg5 arg6 harg6 arg7 harg7 arg8 harg8 arg9 harg9
      arg10 harg10 arg11 harg11 x0 x1 x2 x3 x4 x5 x6 hc0

/-- The output block of such a point: the two products over the tile just stored. -/
theorem out_A (hc0 : cond0_0 i) :
    out0_A_7 c i arg2 harg2 arg3 harg3 arg4 harg4 arg5 harg5 arg6 harg6 arg7 harg7 arg8 harg8 arg9 harg9
      arg10 harg10 arg11 harg11 hc0 x0 x1 x2 x3 x4 x5 x6 = k0_pay2 x0 (wfill x2 x3 (amfill x4 x5)) x1 x6 := by
  unfold out0_A_7
  rw [View.read_writes_eq_canon _ _ _ (cover0_A_7 c i arg2 harg2 arg3 harg3 arg4 harg4 arg5 harg5 arg6 harg6 arg7 harg7 arg8 harg8 arg9 harg9
      arg10 harg10 arg11 harg11 hc0 x0 x1 x2 x3 x4 x5 x6)]
  unfold kernelRun0_A
  dsimp only
  rw [View.canon_unit_zero hz, View.readCov_eq_canon']
  refine (congrArg (fun L : Vec Ideal S16384x512 .bf16 => k0_pay2 _ (View.ld L (Rect.unit ![0, 0] ![16384, 512]
    inb_S16384x512_S16384x512_0_0)) _ _) (loop_canon c i arg2 harg2 arg3 harg3 arg4 harg4 arg5 harg5 arg6 harg6 arg7 harg7 arg8 harg8 arg9 harg9
      arg10 harg10 arg11 harg11 x0 x1 x2 x3 x4 x5 x6 hc0)).trans ?_
  simp only [View.readAt_eq_ld, harg2.read_unread, harg3.read_unread, harg8.read_unread,
    View.ld_unit_zero (S := S512x16384) hz, View.ld_unit_zero (S := S16384x512) hz, View.ld_unit_zero (S := S512x64) hz,
    View.ld_unit_zero (S := S64x512) hz]

/-- The output block of any other point: the products over the tile the scratch already holds. -/
theorem out_B (hc0 : ¬cond0_0 i) (xs : Vec Ideal S16384x512 .bf16) :
    out0_B_7 c i arg2 harg2 arg3 harg3 arg4 harg4 arg5 harg5 arg6 harg6 arg7 harg7 arg8 harg8 arg9 harg9
      arg10 harg10 arg11 harg11 hc0 x0 x1 x2 x3 x4 x5 x6 xs = k0_pay2 x0 xs x1 x6 := by
  unfold out0_B_7
  rw [View.read_writes_eq_canon _ _ _ (cover0_B_7 c i arg2 harg2 arg3 harg3 arg4 harg4 arg5 harg5 arg6 harg6 arg7 harg7 arg8 harg8 arg9 harg9
      arg10 harg10 arg11 harg11 hc0 x0 x1 x2 x3 x4 x5 x6 xs)]
  unfold kernelRun0_B
  dsimp only
  rw [View.canon_unit_zero hz]
  simp only [View.readAt_eq_ld, harg2.read_unread, harg3.read_unread, harg8.read_unread, harg10.read_unread,
    View.ld_unit_zero (S := S512x16384) hz, View.ld_unit_zero (S := S16384x512) hz, View.ld_unit_zero (S := S512x64) hz,
    View.ld_unit_zero (S := S64x512) hz]

end Case

end Cert.DownIdeal.Tile

end
-- ==== Proof.DownValue.lean ====
/- The array the down projection leaves: every entry by its formula over the arrays the region finds. -/
module

public import proofs.«01_k».proof.Proof.Gen.DownIdeal.Value
public import proofs.«01_k».proof.Proof.DownCase

@[expose] public section

set_option maxRecDepth 16384

noncomputable section

open Idealize.ShloMosaic Idealize.ShloMosaic.TcCoe Idealize.SL.Sem

namespace Cert.DownIdeal.Tile

open Cert.DownIdeal Cert.DownIdeal.Gen

/-- The block's payload at an index: the product over the weight tile plus the adapter's product. -/
theorem pay2_at (x0 : Vec Ideal S512x16384 .bf16) (w : Vec Ideal S16384x512 .bf16) (x1 : Vec Ideal S512x64 .bf16)
    (x6 : Vec Ideal S64x512 .bf16) (r : Fin 512) (j : Fin 512) :
    k0_pay2 (F := Ideal) x0 w x1 x6 (ix2 r j) =
      (∑ k : Fin 16384, (show EReal from x0 (ix2 r k)) * (show EReal from w (ix2 k j))) +
        ∑ k : Fin 64, (show EReal from x1 (ix2 r k)) * (show EReal from x6 (ix2 k j)) := by
  pointwise [k0_pay2]

/-- The dequantised weight at row `k`, column `j`. -/
def wval (tab : Vec Ideal S1x128 .f32) (codes : Vec Ideal S8192x8192 .i8) (c8 : Vec Ideal S256x8192 .i8)
    (s2 : Vec Ideal S32x256x1 .f32) (k : Fin 16384) (j : Fin 8192) : EReal :=
  (show EReal from tab (ix2 0 ((nib (k.val % 2) (codes (ix2 ⟨k.val / 2, by omega⟩ j))).castLE (by norm_num)))) *
    ((show EReal from FloatOps.sitofp (F := Ideal) .f32 (c8 (ix2 ⟨k.val / 64, by omega⟩ j))) *
      (show EReal from s2 (ix3 ⟨j.val / 256, by omega⟩ ⟨k.val / 64, by omega⟩ 0)))

/-- The output entry at row `r`, column `j`. -/
def yval (h : Vec Ideal S4096x16384 .bf16) (ha : Vec Ideal S4096x64 .bf16) (tab : Vec Ideal S1x128 .f32)
    (codes : Vec Ideal S8192x8192 .i8) (c8 : Vec Ideal S256x8192 .i8) (s2 : Vec Ideal S32x256x1 .f32)
    (b : Vec Ideal S64x8192 .bf16) (r : Fin 4096) (j : Fin 8192) : EReal :=
  (∑ k : Fin 16384, (show EReal from h (ix2 r k)) * wval tab codes c8 s2 k j) +
    ∑ k : Fin 64, (show EReal from ha (ix2 r k)) * (show EReal from b (ix2 k j))

/-- Where each window's block sits at a point. -/
theorem index_eq : ∀ t : Fin cfg0.N, win0_0.index t = ![t.val % 8, 0] ∧ win0_1.index t = ![t.val % 8, 0] ∧ win0_2.index t = ![0, 0]
    ∧ win0_3.index t = ![0, t.val / 8] ∧ win0_4.index t = ![0, t.val / 8] ∧ win0_5.index t = ![t.val / 8, 0, 0]
    ∧ win0_6.index t = ![0, t.val / 8] ∧ win0_7.index t = ![t.val % 8, t.val / 8] :=
  (by decide +kernel : ∀ t : Fin grid0.N, _)

section Blocks

variable (t : Fin cfg0.N)

/-- The rows of window 0's block. -/
theorem blk0 (X : Vec Ideal S4096x16384 .bf16) (r : Fin 512) (k : Fin 16384) (R : Fin 4096) (h : R.val = t.val % 8 * 512 + r.val) :
    ((cfg0.win 0).blk t).view.read (Elt Ideal) X (ix2 r k) = X (ix2 R k) :=
  congrArg X ((eq_ix2 _).trans ((ix2_inj ..).2
    ⟨Fin.ext ((Pipeline.Window.rect_emb_val (win0_0) t (ix2 r k) 0).trans (by rw [(index_eq t).1]; show t.val % 8 * 512 + r.val = R.val; omega)),
     Fin.ext ((Pipeline.Window.rect_emb_val (win0_0) t (ix2 r k) 1).trans (by rw [(index_eq t).1]; show 0 * 16384 + k.val = k.val; omega))⟩))

/-- The rows of window 1's block. -/
theorem blk1 (X : Vec Ideal S4096x64 .bf16) (r : Fin 512) (k : Fin 64) (R : Fin 4096) (h : R.val = t.val % 8 * 512 + r.val) :
    ((cfg0.win 1).blk t).view.read (Elt Ideal) X (ix2 r k) = X (ix2 R k) :=
  congrArg X ((eq_ix2 _).trans ((ix2_inj ..).2
    ⟨Fin.ext ((Pipeline.Window.rect_emb_val (win0_1) t (ix2 r k) 0).trans (by rw [(index_eq t).2.1]; show t.val % 8 * 512 + r.val = R.val; omega)),
     Fin.ext ((Pipeline.Window.rect_emb_val (win0_1) t (ix2 r k) 1).trans (by rw [(index_eq t).2.1]; show 0 * 64 + k.val = k.val; omega))⟩))

/-- The table's block is the table. -/
theorem blk2 (X : Vec Ideal S1x128 .f32) (k : Fin 128) :
    ((cfg0.win 2).blk t).view.read (Elt Ideal) X (ix2 0 k) = X (ix2 0 k) :=
  congrArg X ((eq_ix2 _).trans ((ix2_inj ..).2
    ⟨Fin.ext ((Pipeline.Window.rect_emb_val (win0_2) t (ix2 0 k) 0).trans (by rw [(index_eq t).2.2.1]; show 0 * 1 + 0 = 0; omega)),
     Fin.ext ((Pipeline.Window.rect_emb_val (win0_2) t (ix2 0 k) 1).trans (by rw [(index_eq t).2.2.1]; show 0 * 128 + k.val = k.val; omega))⟩))

/-- The columns of the code block. -/
theorem blk3 (X : Vec Ideal S8192x8192 .i8) (k : Fin 8192) (j : Fin 512) (J : Fin 8192) (h : J.val = t.val / 8 * 512 + j.val) :
    ((cfg0.win 3).blk t).view.read (Elt Ideal) X (ix2 k j) = X (ix2 k J) :=
  congrArg X ((eq_ix2 _).trans ((ix2_inj ..).2
    ⟨Fin.ext ((Pipeline.Window.rect_emb_val (win0_3) t (ix2 k j) 0).trans (by rw [(index_eq t).2.2.2.1]; show 0 * 8192 + k.val = k.val; omega)),
     Fin.ext ((Pipeline.Window.rect_emb_val (win0_3) t (ix2 k j) 1).trans (by rw [(index_eq t).2.2.2.1]; show t.val / 8 * 512 + j.val = J.val; omega))⟩))

/-- The columns of the scale-code block. -/
theorem blk4 (X : Vec Ideal S256x8192 .i8) (k : Fin 256) (j : Fin 512) (J : Fin 8192) (h : J.val = t.val / 8 * 512 + j.val) :
    ((cfg0.win 4).blk t).view.read (Elt Ideal) X (ix2 k j) = X (ix2 k J) :=
  congrArg X ((eq_ix2 _).trans ((ix2_inj ..).2
    ⟨Fin.ext ((Pipeline.Window.rect_emb_val (win0_4) t (ix2 k j) 0).trans (by rw [(index_eq t).2.2.2.2.1]; show 0 * 256 + k.val = k.val; omega)),
     Fin.ext ((Pipeline.Window.rect_emb_val (win0_4) t (ix2 k j) 1).trans (by rw [(index_eq t).2.2.2.2.1]; show t.val / 8 * 512 + j.val = J.val; omega))⟩))

/-- The scale block. -/
theorem blk5 (X : Vec Ideal S32x256x1 .f32) (s : Fin 2) (g : Fin 256) (S : Fin 32) (h : S.val = t.val / 8 * 2 + s.val) :
    ((cfg0.win 5).blk t).view.read (Elt Ideal) X (ix3 s g 0) = X (ix3 S g 0) :=
  congrArg X ((eq_ix3 _).trans ((ix3_inj ..).2
    ⟨Fin.ext ((Pipeline.Window.rect_emb_val (win0_5) t (ix3 s g 0) 0).trans (by rw [(index_eq t).2.2.2.2.2.1]; show t.val / 8 * 2 + s.val = S.val; omega)),
     Fin.ext ((Pipeline.Window.rect_emb_val (win0_5) t (ix3 s g 0) 1).trans (by rw [(index_eq t).2.2.2.2.2.1]; show 0 * 256 + g.val = g.val; omega)),
     Fin.ext ((Pipeline.Window.rect_emb_val (win0_5) t (ix3 s g 0) 2).trans (by rw [(index_eq t).2.2.2.2.2.1]; show 0 * 1 + 0 = 0; omega))⟩))

/-- The columns of the adapter block. -/
theorem blk6 (X : Vec Ideal S64x8192 .bf16) (k : Fin 64) (j : Fin 512) (J : Fin 8192) (h : J.val = t.val / 8 * 512 + j.val) :
    ((cfg0.win 6).blk t).view.read (Elt Ideal) X (ix2 k j) = X (ix2 k J) :=
  congrArg X ((eq_ix2 _).trans ((ix2_inj ..).2
    ⟨Fin.ext ((Pipeline.Window.rect_emb_val (win0_6) t (ix2 k j) 0).trans (by rw [(index_eq t).2.2.2.2.2.2.1]; show 0 * 64 + k.val = k.val; omega)),
     Fin.ext ((Pipeline.Window.rect_emb_val (win0_6) t (ix2 k j) 1).trans (by rw [(index_eq t).2.2.2.2.2.2.1]; show t.val / 8 * 512 + j.val = J.val; omega))⟩))

/-- Where the output block sits. -/
theorem emb7 (r j : Fin 512) (R : Fin 4096) (J : Fin 8192) (h : R.val = t.val % 8 * 512 + r.val) (hJ : J.val = t.val / 8 * 512 + j.val) :
    ((cfg0.win 7).blk t).view.emb (ix2 r j) = ix2 R J :=
  (eq_ix2 _).trans ((ix2_inj ..).2
    ⟨Fin.ext ((Pipeline.Window.rect_emb_val (win0_7) t (ix2 r j) 0).trans (by rw [(index_eq t).2.2.2.2.2.2.2]; show t.val % 8 * 512 + r.val = R.val; omega)),
     Fin.ext ((Pipeline.Window.rect_emb_val (win0_7) t (ix2 r j) 1).trans (by rw [(index_eq t).2.2.2.2.2.2.2]; show t.val / 8 * 512 + j.val = J.val; omega))⟩)

end Blocks

/-- The weight tile of a column block: column `j` of the block is column `t / 8 * 512 + j` of the weight. -/
def wtile (tab : Vec Ideal S1x128 .f32) (codes : Vec Ideal S8192x8192 .i8) (c8 : Vec Ideal S256x8192 .i8)
    (s2 : Vec Ideal S32x256x1 .f32) (n : Fin 16) : Vec Ideal S16384x512 .bf16 := fun y =>
  wval tab codes c8 s2 (y 0) ⟨n.val * 512 + (y 1).val, by have : (y 1).val < 512 := (y 1).isLt; omega⟩

theorem div_lt (t : Fin cfg0.N) : t.val / 8 < 16 := by
  have : t.val < 128 := Nat.lt_of_lt_of_eq t.isLt N_0
  omega

/-- What the tile's formula reads from the point's blocks is the weight's own formula. -/
theorem wfill_blocks (tab : Vec Ideal S1x128 .f32) (codes : Vec Ideal S8192x8192 .i8) (c8 : Vec Ideal S256x8192 .i8)
    (s2 : Vec Ideal S32x256x1 .f32) (t : Fin cfg0.N) :
    wfill (((cfg0.win 2).blk t).view.read (Elt Ideal) tab) (((cfg0.win 3).blk t).view.read (Elt Ideal) codes)
      (amfill (((cfg0.win 4).blk t).view.read (Elt Ideal) c8) (((cfg0.win 5).blk t).view.read (Elt Ideal) s2))
      = wtile tab codes c8 s2 ⟨t.val / 8, div_lt t⟩ := by
  funext y
  obtain ⟨r, j, rfl⟩ : ∃ (r : Fin 16384) (j : Fin 512), y = ix2 r j := ⟨y 0, y 1, eq_ix2 y⟩
  have hq := div_lt t
  refine (wfill_at _ _ _ _ r.val j (r.val % 2) r.isLt rfl rfl rfl).trans ?_
  refine congrArg₂ (fun a b : EReal => a * b) ?_ ?_
  · refine (blk2 t tab _).trans ?_
    refine congrArg (fun b : BitVec 8 => (tab (ix2 0 ((nib (r.val % 2) b).castLE (by norm_num))) : EReal)) ?_
    exact blk3 t codes _ j _ rfl
  · refine (amfill_at _ _ _ ⟨r.val / 64, by omega⟩ j ⟨j.val / 256, by omega⟩ rfl rfl rfl).trans ?_
    refine congrArg₂ (fun (a : BitVec 8) (b : EReal) => (show EReal from FloatOps.sitofp (F := Ideal) .f32 a) * b) ?_ ?_
    · exact blk4 t c8 _ j _ rfl
    · exact blk5 t s2 _ _ _ (by show (t.val / 8 * 512 + j.val) / 256 = t.val / 8 * 2 + j.val / 256; omega)

/-- The block's payload over the point's blocks and that tile is the output's own formula. -/
theorem pay2_blocks (h : Vec Ideal S4096x16384 .bf16) (ha : Vec Ideal S4096x64 .bf16) (tab : Vec Ideal S1x128 .f32)
    (codes : Vec Ideal S8192x8192 .i8) (c8 : Vec Ideal S256x8192 .i8) (s2 : Vec Ideal S32x256x1 .f32)
    (b : Vec Ideal S64x8192 .bf16) (t : Fin cfg0.N) (r j : Fin 512) (R : Fin 4096) (J : Fin 8192)
    (hR : R.val = t.val % 8 * 512 + r.val) (hJ : J.val = t.val / 8 * 512 + j.val) :
    k0_pay2 (F := Ideal) (((cfg0.win 0).blk t).view.read (Elt Ideal) h) (wtile tab codes c8 s2 ⟨t.val / 8, div_lt t⟩)
      (((cfg0.win 1).blk t).view.read (Elt Ideal) ha) (((cfg0.win 6).blk t).view.read (Elt Ideal) b) (ix2 r j)
      = yval h ha tab codes c8 s2 b R J := by
  refine (pay2_at _ _ _ _ r j).trans ?_
  refine congrArg₂ (fun a b : EReal => a + b) (Finset.sum_congr rfl fun k _ => ?_) (Finset.sum_congr rfl fun k _ => ?_)
  · refine congrArg₂ (fun a b : EReal => a * b) (blk0 t h r k R hR) ?_
    exact congrArg (wval tab codes c8 s2 k) (Fin.ext hJ.symm)
  · exact congrArg₂ (fun a b : EReal => a * b) (blk1 t ha r k R hR) (blk6 t b k j J hJ)

variable (m : (ℓ : Loc nD τ sig) → Buf (Elt Ideal) ℓ) (c : Dev nD)

/-- After every point the weight scratch holds the tile of that point's column block. -/
theorem scratch_eq : ∀ (n : ℕ) (hn : n < cfg0.N), (outsAt0 m c n hn).2
    = wtile (V m c main_v1) (V m c main_arg3) (V m c main_arg4) (V m c main_v3) ⟨n / 8, div_lt ⟨n, hn⟩⟩ := by
  intro n
  induction n with
  | zero =>
    intro hn
    rw [outsAt0_A m c ⟨0, hn⟩ rfl]
    exact (sout_A ..).trans (wfill_blocks _ _ _ _ _)
  | succ n ih =>
    intro hn
    by_cases h0 : (n + 1) % 8 = 0
    · rw [outsAt0_A m c ⟨n + 1, hn⟩ h0]
      exact (sout_A ..).trans (wfill_blocks _ _ _ _ _)
    · rw [outsAt0_B m c ⟨n + 1, hn⟩ h0]
      refine (ih (by omega)).trans ?_
      have e : n / 8 = (n + 1) / 8 := by omega
      exact congrArg _ (Fin.ext e)

/-- What every point leaves in its output block. -/
theorem out_eq (t : Fin cfg0.N) : (outsAt0 m c t.val t.isLt).1 =
    k0_pay2 (F := Ideal) (iblk m c 0 t) (wtile (V m c main_v1) (V m c main_arg3) (V m c main_arg4) (V m c main_v3) ⟨t.val / 8, div_lt t⟩)
      (iblk m c 1 t) (iblk m c 6 t) := by
  by_cases h0 : t.val % 8 = 0
  · rw [outsAt0_A m c t h0]
    dsimp only
    rw [out_A]
    exact congrArg (fun w => k0_pay2 (F := Ideal) (iblk m c 0 t) w (iblk m c 1 t) (iblk m c 6 t))
      (wfill_blocks (V m c main_v1) (V m c main_arg3) (V m c main_arg4) (V m c main_v3) t)
  · rw [outsAt0_B m c t h0]
    dsimp only
    rw [out_B, scratch_eq m c (t.val - 1) _]
    have e : (⟨(t.val - 1) / 8, div_lt ⟨t.val - 1, by omega⟩⟩ : Fin 16) = ⟨t.val / 8, div_lt t⟩ := Fin.ext (by show (t.val - 1) / 8 = t.val / 8; omega)
    rw [e]

/-- The output array over the arrays the region finds. -/
def yout : Vec Ideal S4096x8192 .f32 := fun i =>
  yval (V m c main_arg0) (V m c main_arg1) (V m c main_v1) (V m c main_arg3) (V m c main_arg4) (V m c main_v3) (V m c main_arg6) (i 0) (i 1)

/-- The array after the run. -/
theorem final : (dats m 0 c).arrAt 7 cfg0.N = yout m c :=
  (dats m 0 c).arrAt_eq_of_cover 7 _ (fun t hf => by
    rw [Value.flushed7, out_eq]
    funext y
    obtain ⟨r, j, rfl⟩ : ∃ (r j : Fin 512), y = ix2 r j := ⟨y 0, y 1, eq_ix2 y⟩
    have hq := div_lt t
    refine (pay2_blocks _ _ _ _ _ _ _ t r j ⟨t.val % 8 * 512 + r.val, by omega⟩ ⟨t.val / 8 * 512 + j.val, by omega⟩ rfl rfl).trans ?_
    exact (congrArg (yout m c) (emb7 t r j ⟨t.val % 8 * 512 + r.val, by omega⟩ ⟨t.val / 8 * 512 + j.val, by omega⟩ rfl rfl)).symm)
    (fun i => (Value.covered_iff7 i).2 (by
      have h0 : (i 0).val < 4096 := (i 0).isLt
      have h1 : (i 1).val < 8192 := (i 1).isLt
      omega))

end Cert.DownIdeal.Tile

end
-- ==== Proof.DownAlg.lean ====
/- The reference's down projection at an index, and its equality with the array the kernel leaves. -/
module

public import proofs.«01_k».proof.Proof.Gen.DownRefIdeal.Read
public import proofs.«01_k».proof.Defs
public import proofs.«01_k».proof.Proof.DownValue
public import Idealize.ShloMosaic.Lib.Claim
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.DownRefIdeal.Tile

open Cert.DownRefIdeal Cert.DownRefIdeal.Gen Cert.DownRefIdeal.Read
open Cert.DownIdeal.Tile (nib)

/-- A byte's low code as the reference's index word. -/
theorem lo_ref (b : BitVec 8) :
    Scalar.select (IntOp.cmpi CmpIPredicate.slt (IntOp.andi (BitVec.setWidth 32 b) 15#32) 0#32)
      (IntOp.addi (IntOp.andi (BitVec.setWidth 32 b) 15#32) 16#32) (IntOp.andi (BitVec.setWidth 32 b) 15#32)
      = BitVec.ofNat 32 (nib 0 b).val := by
  revert b; decide +kernel

/-- A byte's high code as the reference's index word. -/
theorem hi_ref (b : BitVec 8) :
    Scalar.select (IntOp.cmpi CmpIPredicate.slt (IntOp.shrsi ArithUnit.host (BitVec.setWidth 32 b) 4#32) 0#32)
      (IntOp.addi (IntOp.shrsi ArithUnit.host (BitVec.setWidth 32 b) 4#32) 16#32)
      (IntOp.shrsi ArithUnit.host (BitVec.setWidth 32 b) 4#32) = BitVec.ofNat 32 (nib 1 b).val := by
  revert b; decide +kernel

/-- A table index word, read signed and clamped, is the index. -/
theorem clamp_idx (q : Fin 16) : min (BitVec.ofNat 32 q.val).toInt.toNat (16 - 1) = q.val := by
  revert q; decide +kernel

/-- The table index of row `k`, column `j`: the code of parity `k % 2` in byte row `k / 2`. -/
theorem idx_at (x3 : Vec Ideal S8192x8192 .i8) (k : Fin 16384) (j : Fin 8192) (p : Nat) (hp : k.val % 2 = p) :
    val_main_v22 (F := Ideal) x3 (ix2 k j) = BitVec.ofNat 32 (nib p (x3 (ix2 ⟨k.val / 2, by omega⟩ j))).val := by
  pointwise [val_main_v22, val_main_v21, val_main_v20, val_main_v19, val_main_v18, val_main_c_2, val_main_c_1, val_main_v8, val_main_v7, val_main_v6, val_main_v5, val_main_v4, val_main_v3, val_main_v2, val_main_v1, val_main_v0, val_main_c, val_main_c_0]
  have hr : p = 0 ∨ p = 1 := by omega
  rcases hr with rfl | rfl
  · simp only [dif_pos (show k.val % 2 < 1 by omega)]
    exact lo_ref _
  · simp only [dif_neg (show ¬ k.val % 2 < 1 by omega)]
    exact hi_ref _

/-- The gathered table entry. -/
theorem gather_at (x2 : Vec Ideal S16 .f32) (x3 : Vec Ideal S8192x8192 .i8) (k : Fin 16384) (j : Fin 8192) :
    val_main_v24 (F := Ideal) x2 x3 (ix2 k j) = x2 (ix1 (nib (k.val % 2) (x3 (ix2 ⟨k.val / 2, by omega⟩ j)))) := by
  have e : val_main_v23 (F := Ideal) x3 (ValueIdx.takeIdx (ix2 k j)) = BitVec.ofNat 32 (nib (k.val % 2) (x3 (ix2 ⟨k.val / 2, by omega⟩ j))).val :=
    (val_main_v23_apply x3 _).trans ((congrArg (val_main_v22 (F := Ideal) x3) ((eq_ix2 _).trans ((ix2_inj ..).2 ⟨rfl, rfl⟩))).trans
      (idx_at x3 k j _ rfl))
  refine (ValueIdx.gather_take_apply (by norm_num) gather_S16_S16384x8192x1_S16384x8192_n_0_n_n_0_2_1_wf _ _ _).trans ?_
  refine congrArg x2 ((ix1_inj ..).2 (Fin.ext ?_))
  exact (congrArg (fun w : BitVec 32 => min w.toInt.toNat (16 - 1)) e).trans (clamp_idx _)

/-- A code widened before it is converted converts to the same real. -/
theorem sitofp_sx (b : BitVec 8) : FloatOps.sitofp (F := Ideal) .f32 (BitVec.signExtend 32 b) = FloatOps.sitofp (F := Ideal) .f32 b :=
  congrArg (fun z : ℤ => ((z : ℝ) : EReal)) (BitVec.toInt_signExtend_of_le (by norm_num))

/-- The dequantised weight. -/
theorem w_at (x2 : Vec Ideal S16 .f32) (x3 : Vec Ideal S8192x8192 .i8) (x4 : Vec Ideal S256x8192 .i8) (x5 : Vec Ideal S256x32 .f32)
    (k : Fin 16384) (j : Fin 8192) :
    val_main_v29 (F := Ideal) x2 x3 x4 x5 (ix2 k j) =
      (show EReal from x2 (ix1 (nib (k.val % 2) (x3 (ix2 ⟨k.val / 2, by omega⟩ j))))) *
        ((show EReal from FloatOps.sitofp (F := Ideal) .f32 (x4 (ix2 ⟨k.val / 64, by omega⟩ j))) *
          (show EReal from x5 (ix2 ⟨k.val / 64, by omega⟩ ⟨j.val / 256, by omega⟩))) := by
  refine Eq.trans ?_ (congrArg (fun a : EReal => a * ((show EReal from FloatOps.sitofp (F := Ideal) .f32 (x4 (ix2 ⟨k.val / 64, by omega⟩ j))) *
          (show EReal from x5 (ix2 ⟨k.val / 64, by omega⟩ ⟨j.val / 256, by omega⟩)))) (gather_at x2 x3 k j))
  pointwise [val_main_v29, val_main_v28, val_main_v27, val_main_v26, val_main_v25, val_main_v16, val_main_v15, val_main_v14,
    val_main_v13, val_main_v12, val_main_v11, val_main_v10, val_main_v9]
  rw [sitofp_sx]

theorem y_at (x0 : Vec Ideal S4096x16384 .bf16) (x1 : Vec Ideal S4096x64 .bf16) (x2 : Vec Ideal S16 .f32) (x3 : Vec Ideal S8192x8192 .i8)
    (x4 : Vec Ideal S256x8192 .i8) (x5 : Vec Ideal S256x32 .f32) (x6 : Vec Ideal S64x8192 .bf16) (r : Fin 4096) (j : Fin 8192) :
    val_main_v32 (F := Ideal) x0 x1 x2 x3 x4 x5 x6 (ix2 r j) =
      (∑ k : Fin 16384, (show EReal from x0 (ix2 r k)) * (show EReal from val_main_v29 (F := Ideal) x2 x3 x4 x5 (ix2 k j))) +
        ∑ k : Fin 64, (show EReal from x1 (ix2 r k)) * (show EReal from x6 (ix2 k j)) := by
  pointwise [val_main_v32, val_main_v31, val_main_v30]

end Cert.DownRefIdeal.Tile

namespace Cert.DownIdeal.Tile

open Cert.DownIdeal Cert.DownIdeal.Gen

variable (m : (ℓ : Loc nD τ sig) → Buf (Elt Ideal) ℓ) (c : Dev nD)

/-- The table row the region finds: the table's sixteen entries, then padding. -/
theorem tab_at (q : Fin 16) : (V m c main_v1 : Vec Ideal S1x128 .f32) (ix2 0 (q.castLE (by norm_num)))
    = (m ((c : Thread nD τ).loc main_arg2) : Vec Ideal S16 .f32) (ix1 q) := by
  entry_read
  simp only [hostOps0, hostOps0_1, hostOps0_2, List.flatten_cons, List.flatten_nil, List.append_nil, List.cons_append, List.nil_append]
  after_results_simp
  show shapeCast S1x128 (pad S128 ![0] ![112] ![0] (m ((c : Thread nD τ).loc main_arg2) : Vec Ideal S16 .f32)
    (sitofp (F := Ideal) FTy.f32 (constantI S_ 32 0#32)) pads_S16_S128_01120 h_S_) shapeCasts_S128_S1x128 (ix2 0 (Fin.castLE (by norm_num) q)) = _
  generalize (m ((c : Thread nD τ).loc main_arg2) : Vec Ideal S16 .f32) = X
  pointwise []
  exact (dif_pos (fun a => by
    obtain rfl : a = 0 := Subsingleton.elim (α := Fin 1) _ _
    exact q.isLt)).trans rfl

/-- The scale array the region finds, turned. -/
theorem s2_at (s : Fin 32) (g : Fin 256) : (V m c main_v3 : Vec Ideal S32x256x1 .f32) (ix3 s g 0)
    = (m ((c : Thread nD τ).loc main_arg5) : Vec Ideal S256x32 .f32) (ix2 g s) := by
  entry_read
  simp only [hostOps0, hostOps0_1, hostOps0_2, List.flatten_cons, List.flatten_nil, List.append_nil, List.cons_append, List.nil_append]
  after_results_simp
  generalize (m ((c : Thread nD τ).loc main_arg5) : Vec Ideal S256x32 .f32) = X
  pointwise []

/-- The kernel's array is the reference's term over the same arguments. -/
theorem yout_eq : yout m c = Cert.DownRefIdeal.Read.val_main_v32 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  funext i
  obtain ⟨r, j, rfl⟩ : ∃ (r : Fin 4096) (j : Fin 8192), i = ix2 r j := ⟨i 0, i 1, eq_ix2 i⟩
  refine Eq.trans ?_ (Cert.DownRefIdeal.Tile.y_at _ _ _ _ _ _ _ r j).symm
  show yval (V m c main_arg0) (V m c main_arg1) (V m c main_v1) (V m c main_arg3) (V m c main_arg4) (V m c main_v3) (V m c main_arg6) r j = _
  unfold yval
  refine congrArg₂ (fun a b : EReal => a + b) (Finset.sum_congr rfl fun k _ => ?_) (Finset.sum_congr rfl fun k _ => ?_)
  · refine congrArg₂ (fun a b : EReal => a * b) (congrFun (V_main_arg0 m c) _) ?_
    refine Eq.trans ?_ (Cert.DownRefIdeal.Tile.w_at _ _ _ _ k j).symm
    unfold wval
    refine congrArg₂ (fun a b : EReal => a * b) ?_ (congrArg₂ (fun a b : EReal => a * b) ?_ (s2_at m c _ _))
    · rw [V_main_arg3]
      exact tab_at m c _
    · rw [V_main_arg4]
  · exact congrArg₂ (fun a b : EReal => a * b) (congrFun (V_main_arg1 m c) _) (congrFun (V_main_arg6 m c) _)

end Cert.DownIdeal.Tile

/-- The down projection's kernel and its reference end with equal results. -/
theorem Cert.Proof.algebraic_down : Cert.algebraic_DownIdeal_DownRefIdeal := by
  intro m g m' g' _ hagree
  refine ⟨fun c => Cert.DownIdeal.Tile.yout m c, ?_, ?_⟩
  · exact (θ_run _ _ _).mono (fun r h c => ⟨(h c).1.trans (Cert.DownIdeal.Tile.final m c), (h c).2⟩) (Cert.DownIdeal.Value.run_blocks m g)
  · refine (θ_run _ _ _).mono (fun r h c => ⟨(h c).1.trans ?_, (h c).2⟩) (Cert.DownRefIdeal.Value.run m' g')
    refine (Cert.DownRefIdeal.Read.val_main_v32_eq _ _ _ _ _ _ _).trans ?_
    obtain ⟨a0, a1, a2, a3, a4, a5, a6⟩ := hagree c
    refine Eq.trans ?_ (Cert.DownIdeal.Tile.yout_eq m c).symm
    rw [a0, a1, a2, a3, a4, a5, a6]

end
-- ==== Proof.GateUpFrameKeep.lean ====
/- The body runs at a grid point past the first of its column block, whatever it leaves. -/
module

public import proofs.«01_k».proof.Proof.Gen.GateUp.Frame
public import proofs.«01_k».proof.Proof.Gen.GateUp.Skeleton
public import proofs.«01_k».proof.Proof.Gen.GateUp.Loops
public import proofs.«01_k».proof.Proof.Gen.GateUp.Points
public import Idealize.ShloMosaic.Lib.Pipeline.FrameBody
public import Idealize.ShloMosaic.Lib.Tactic
public import Idealize.ShloMosaic.Lib.WordCmp

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Run

variable (c : Dev nD) (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x1024 .i32) (harg17 : arg17.IsWhole)
  (arg18 : Memref sig .tc .vmem S4096x64 .f32) (harg18 : arg18.IsWhole)
  (x0 : Vec F S512x8192 .bf16) (x1 : Vec F S512x64 .bf16) (x2 : Vec F S1x128 .f32) (x3 x4 : Vec F S4096x512 .i8) (x5 x6 : Vec F S128x512 .i8)
  (x7 x8 : Vec F S2x128x1 .f32) (x9 x10 : Vec F S64x512 .bf16) (x11 : Vec F S512x64 .bf16)

set_option backward.proofsInPublic true in
set_option maxHeartbeats 8000000 in
/-- The body runs at a grid point past the first of its column block, whatever it leaves. -/
theorem frame_keep (hc1 : ¬ k0_cond1 i = 1#1) (h23 : k0_cond3 i = 1#1 ↔ ¬ k0_cond2 i = 1#1) (h24 : k0_cond4 i = 1#1 → ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
          ∗ (∃ d, owns (c : Thread nD τ) arg14 fullShare d) ∗ (∃ d, owns (c : Thread nD τ) arg15 fullShare d)
          ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_gate_up i
        arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18) K := by
  rcases Classical.em (k0_cond4 i = 1#1) with hc4 | hc4
  on_goal 2 => rcases Classical.em (k0_cond2 i = 1#1) with hc2 | hc2
  on_goal 2 => have hc3 : ¬ k0_cond3 i = 1#1 := fun h => h23.1 h hc2
  on_goal 3 => have hc3 : k0_cond3 i = 1#1 := h23.2 hc2
  on_goal 1 => have hc2 : ¬ k0_cond2 i = 1#1 := h24 hc4
  on_goal 1 => have hc3 : k0_cond3 i = 1#1 := h23.2 hc2
  all_goals
    simp only [cc0_gate_up_eq_skeleton]; unfold cc0_gate_up_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Run

end Cert.GateUp.Gen

end
-- ==== Proof.GateUpFrameFill.lean ====
/- The body runs at the first grid point of a column block, whatever it leaves. -/
module

public import proofs.«01_k».proof.Proof.Gen.GateUp.Frame
public import proofs.«01_k».proof.Proof.Gen.GateUp.Skeleton
public import proofs.«01_k».proof.Proof.Gen.GateUp.Loops
public import proofs.«01_k».proof.Proof.Gen.GateUp.Points
public import Idealize.ShloMosaic.Lib.Pipeline.FrameBody
public import Idealize.ShloMosaic.Lib.Tactic
public import Idealize.ShloMosaic.Lib.WordCmp

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Run

variable (c : Dev nD) (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x1024 .i32) (harg17 : arg17.IsWhole)
  (arg18 : Memref sig .tc .vmem S4096x64 .f32) (harg18 : arg18.IsWhole)
  (x0 : Vec F S512x8192 .bf16) (x1 : Vec F S512x64 .bf16) (x2 : Vec F S1x128 .f32) (x3 x4 : Vec F S4096x512 .i8) (x5 x6 : Vec F S128x512 .i8)
  (x7 x8 : Vec F S2x128x1 .f32) (x9 x10 : Vec F S64x512 .bf16) (x11 : Vec F S512x64 .bf16)

set_option backward.proofsInPublic true in
set_option maxHeartbeats 8000000 in
/-- The body runs at the first grid point of a column block, whatever it leaves. -/
theorem frame_fill (hc1 : k0_cond1 i = 1#1) (h23 : k0_cond3 i = 1#1 ↔ ¬ k0_cond2 i = 1#1) (h24 : k0_cond4 i = 1#1 → ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
          ∗ (∃ d, owns (c : Thread nD τ) arg14 fullShare d) ∗ (∃ d, owns (c : Thread nD τ) arg15 fullShare d)
          ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_gate_up i
        arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18) K := by
  rcases Classical.em (k0_cond4 i = 1#1) with hc4 | hc4
  on_goal 2 => rcases Classical.em (k0_cond2 i = 1#1) with hc2 | hc2
  on_goal 2 => have hc3 : ¬ k0_cond3 i = 1#1 := fun h => h23.1 h hc2
  on_goal 3 => have hc3 : k0_cond3 i = 1#1 := h23.2 hc2
  on_goal 1 => have hc2 : ¬ k0_cond2 i = 1#1 := h24 hc4
  on_goal 1 => have hc3 : k0_cond3 i = 1#1 := h23.2 hc2
  all_goals
    simp only [cc0_gate_up_eq_skeleton]; unfold cc0_gate_up_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Run

end Cert.GateUp.Gen

end
-- ==== Proof.GateUpTile.lean ====
/- What one trip of each of the gate and up call's two dequantisation loops stores, element by element. -/
module

public import proofs.«01_k».proof.Proof.Gen.GateUpIdeal.Skeleton
public import proofs.«01_k».proof.Proof.DownTile
public import Idealize.ShloMosaic.Lib.Pointwise

@[expose] public section

set_option maxRecDepth 16384

noncomputable section

open Idealize.ShloMosaic Idealize.ShloMosaic.TcCoe Idealize.SL.Sem

namespace Cert.GateUpIdeal.Tile

open Cert.GateUpIdeal Cert.GateUpIdeal.Gen
open Cert.DownIdeal.Tile (nib lo_sel hi_sel pick4)

/-- The rows a trip of the gate half's loop stores, as one function of the table, the codes and the absmax row it loads. -/
def tripPay (t : FVec Ideal S1x128 .f32) (q : Vec Ideal S32x512 .i8) (a : Vec Ideal S1x2x512 .bf16) : FVec Ideal S64x512 .bf16 :=
  k0_pay36 (k0_pay2 a) (k0_pay3 a) (k0_pay6 q) (k0_pay7 t) (k0_pay8 t q) (k0_pay9 t q)
    (k0_pay11 (k0_pay7 t) (k0_pay10 q)) (k0_pay12 (k0_pay6 q) (k0_pay7 t))
    (k0_pay13 (k0_pay5 q) (k0_pay7 t)) (k0_pay14 (k0_pay6 q) (k0_pay7 t)) (k0_pay15 (k0_pay5 q))

/-- The rows a trip of the up half's loop stores. -/
def tripPay2 (t : FVec Ideal S1x128 .f32) (q : Vec Ideal S32x512 .i8) (a : Vec Ideal S1x2x512 .bf16) : FVec Ideal S64x512 .bf16 :=
  k0_pay38 (k0_pay16 a) (k0_pay17 a) (k0_pay20 q) (k0_pay21 t) (k0_pay22 t q) (k0_pay23 t q)
    (k0_pay25 (k0_pay21 t) (k0_pay24 q)) (k0_pay26 (k0_pay20 q) (k0_pay21 t))
    (k0_pay27 (k0_pay19 q) (k0_pay21 t)) (k0_pay28 (k0_pay20 q) (k0_pay21 t)) (k0_pay29 (k0_pay19 q))

/-- The two are the same function. -/
theorem tripPay2_eq : tripPay2 = tripPay := rfl

/-- Stored row `r`, column `j`: the table's value at the code of `r`'s parity `p` in byte row `r / 2`, times the
    absmax row's value at `j`. -/
theorem tripPay_at (t : FVec Ideal S1x128 .f32) (q : Vec Ideal S32x512 .i8) (a : Vec Ideal S1x2x512 .bf16)
    (r : Fin 64) (j : Fin 512)
    (p : Nat) (hp : r.val % 2 = p) :
    tripPay t q a (ix2 r j) =
      (show EReal from t (ix2 0 ((nib p (q (ix2 ⟨r.val / 2, by omega⟩ j))).castLE (by norm_num)))) *
        (show EReal from a (ix3 0 0 j)) := by
  pointwise [tripPay, k0_pay36, k0_pay2, k0_pay3, k0_pay4, k0_pay5, k0_pay6, k0_pay7, k0_pay8, k0_pay9, k0_pay10, k0_pay11,
    k0_pay12, k0_pay13, k0_pay14, k0_pay15, lo_sel, hi_sel]
  have hr : p = 0 ∨ p = 1 := by omega
  rcases hr with rfl | rfl
  · rw [if_pos hp]
    rw [pick4 (fun l : Fin 512 => t (ix2 0 ⟨(nib 0 (q (ix2 ⟨r.val / 2, by omega⟩ l))).val, by omega⟩)) j]
    rfl
  · rw [if_neg (by omega)]
    rw [pick4 (fun l : Fin 512 => t (ix2 0 ⟨(nib 1 (q (ix2 ⟨r.val / 2, by omega⟩ l))).val, by omega⟩)) j]
    rfl

end Cert.GateUpIdeal.Tile

end
-- ==== Proof.GateUpLeft.lean ====
/- What the body of the fused gate and up call leaves at a grid point, read off the stores it makes. -/
module

public import proofs.«01_k».proof.Proof.Gen.GateUpIdeal.Frame
public import proofs.«01_k».proof.Proof.Gen.GateUpIdeal.Skeleton
public import proofs.«01_k».proof.Proof.Gen.GateUpIdeal.Loops
public import proofs.«01_k».proof.Proof.Gen.GateUpIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.VecWindow (window put)

variable {F : FTy → Type} [FloatOps F]

/-- The first row of the row block of a grid point, as offsets into the row accumulator. -/
abbrev rowOff (i : grid0.Coords) : Fin 2 → Nat := k0_off7 i

/-- What the body leaves in the gated product's block `X14`, in the low-rank projection's buffer `X15` and in its row
    accumulator `X18`, over the dequantised weights `X16`: the block is the gated product; the accumulator's rows
    start at the block's projection (first column block) or grow by it; the last column block copies the rows, halved
    to the stored format and scaled, into the projection's buffer. -/
def Left (i : grid0.Coords) (ho : ∀ a, rowOff i a + S512x64.size a ≤ S4096x64.size a)
    (x0 : Vec F S512x8192 .bf16) (x1 : Vec F S512x64 .bf16) (x9 x10 : Vec F S64x512 .bf16) (x11 : Vec F S512x64 .bf16)
    (y15 : Vec F S4096x64 .bf16) (s18 : Vec F S4096x64 .f32)
    (X14 : Vec F S512x512 .bf16) (X15 : Vec F S4096x64 .bf16) (X16 : Vec F S8192x1024 .bf16) (X18 : Vec F S4096x64 .f32) : Prop :=
  X14 = k0_pay39 x0 x1 X16 x9 x10
  ∧ (k0_cond2 i = 1#1 → X18 = put s18 (rowOff i) S512x64.size (k0_pay41 x0 x1 X16 x9 x10 x11))
  ∧ (¬ k0_cond2 i = 1#1 → X18 = put s18 (rowOff i) S512x64.size (k0_pay42 x0 x1 X16 x9 x10 x11 (window s18 (rowOff i) S512x64.size ho)))
  ∧ (k0_cond4 i = 1#1 → X15 = put y15 (rowOff i) S512x64.size (k0_pay1 (window X18 (rowOff i) S512x64.size ho)))
  ∧ (¬ k0_cond4 i = 1#1 → X15 = y15)

theorem hz2 : (![0, 0] : Fin 2 → Nat) = fun _ => 0 := funext fun a => by fin_cases a <;> rfl

section Close

variable (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x2x1024 .bf16) (harg17 : arg17.IsWhole)
  (arg18 : Memref sig .tc .vmem S4096x64 .f32) (harg18 : arg18.IsWhole)
  (x0 : Vec F S512x8192 .bf16) (x1 : Vec F S512x64 .bf16) (x2 : Vec F S1x128 .f32) (x3 x4 : Vec F S4096x512 .i8) (x5 x6 : Vec F S128x512 .i8)
  (x7 x8 : Vec F S2x128x1 .f32) (x9 x10 : Vec F S64x512 .bf16) (x11 : Vec F S512x64 .bf16)
  (y15 : Vec F S4096x64 .bf16) (s16 : Vec F S8192x1024 .bf16) (s18 : Vec F S4096x64 .f32)
  (f12 : BufTy.Contents (Elt F) arg14.view.ty) (fw : BufTy.Contents (Elt F) arg16.view.ty)

/-- The gated product over weights the scratch holds as `fw`, as the body computes it from its loads. -/
abbrev hStored : FVec F S512x512 .bf16 :=
  k0_pay39 (View.readAt (Elt F) arg2.view (Rect.unit ![0, 0] S512x8192.size inb_S512x8192_S512x8192_0_0).toLoadRect (harg2.unread x0))
    (View.readAt (Elt F) arg3.view (Rect.unit ![0, 0] S512x64.size inb_S512x64_S512x64_0_0).toLoadRect (harg3.unread x1))
    (View.readAt (Elt F) arg16.view (Rect.unit ![0, 0] S8192x1024.size inb_S8192x1024_S8192x1024_0_0).toLoadRect fw)
    (View.readAt (Elt F) arg11.view (Rect.unit ![0, 0] S64x512.size inb_S64x512_S64x512_0_0).toLoadRect (harg11.unread x9))
    (View.readAt (Elt F) arg12.view (Rect.unit ![0, 0] S64x512.size inb_S64x512_S64x512_0_0).toLoadRect (harg12.unread x10))

/-- The first column block's row store, the same way. -/
abbrev partStored : FVec F S512x64 .f32 :=
  k0_pay41 (View.readAt (Elt F) arg2.view (Rect.unit ![0, 0] S512x8192.size inb_S512x8192_S512x8192_0_0).toLoadRect (harg2.unread x0))
    (View.readAt (Elt F) arg3.view (Rect.unit ![0, 0] S512x64.size inb_S512x64_S512x64_0_0).toLoadRect (harg3.unread x1))
    (View.readAt (Elt F) arg16.view (Rect.unit ![0, 0] S8192x1024.size inb_S8192x1024_S8192x1024_0_0).toLoadRect fw)
    (View.readAt (Elt F) arg11.view (Rect.unit ![0, 0] S64x512.size inb_S64x512_S64x512_0_0).toLoadRect (harg11.unread x9))
    (View.readAt (Elt F) arg12.view (Rect.unit ![0, 0] S64x512.size inb_S64x512_S64x512_0_0).toLoadRect (harg12.unread x10))
    (View.readAt (Elt F) arg13.view (Rect.unit ![0, 0] S512x64.size inb_S512x64_S512x64_0_0).toLoadRect (harg13.unread x11))

/-- A later column block's row store: the rows it loads and the block's projection. -/
abbrev sumStored (ho : ∀ a, rowOff i a + S512x64.size a ≤ S4096x64.size a) : FVec F S512x64 .f32 :=
  k0_pay42 (View.readAt (Elt F) arg2.view (Rect.unit ![0, 0] S512x8192.size inb_S512x8192_S512x8192_0_0).toLoadRect (harg2.unread x0))
    (View.readAt (Elt F) arg3.view (Rect.unit ![0, 0] S512x64.size inb_S512x64_S512x64_0_0).toLoadRect (harg3.unread x1))
    (View.readAt (Elt F) arg16.view (Rect.unit ![0, 0] S8192x1024.size inb_S8192x1024_S8192x1024_0_0).toLoadRect fw)
    (View.readAt (Elt F) arg11.view (Rect.unit ![0, 0] S64x512.size inb_S64x512_S64x512_0_0).toLoadRect (harg11.unread x9))
    (View.readAt (Elt F) arg12.view (Rect.unit ![0, 0] S64x512.size inb_S64x512_S64x512_0_0).toLoadRect (harg12.unread x10))
    (View.readAt (Elt F) arg13.view (Rect.unit ![0, 0] S512x64.size inb_S512x64_S512x64_0_0).toLoadRect (harg13.unread x11))
    (View.readAt (Elt F) arg18.view (Rect.unit (s := S4096x64) (rowOff i) S512x64.size ho).toLoadRect (harg18.unread s18))

/-- The stored block in the values the buffers hold. -/
theorem hStored_eq : hStored arg2 harg2 arg3 harg3 arg11 harg11 arg12 harg12 arg16 x0 x1 x9 x10 fw = k0_pay39 x0 x1 (View.read (Elt F) arg16.view fw) x9 x10 := by
  unfold hStored
  congr 1
  · exact (View.readAt_full arg2.view _ _).trans (harg2.read_unread _)
  · exact (View.readAt_full arg3.view _ _).trans (harg3.read_unread _)
  · exact View.readAt_full arg16.view _ _
  · exact (View.readAt_full arg11.view _ _).trans (harg11.read_unread _)
  · exact (View.readAt_full arg12.view _ _).trans (harg12.read_unread _)

/-- The first row store in the values the buffers hold. -/
theorem partStored_eq : partStored arg2 harg2 arg3 harg3 arg11 harg11 arg12 harg12 arg13 harg13 arg16 x0 x1 x9 x10 x11 fw = k0_pay41 x0 x1 (View.read (Elt F) arg16.view fw) x9 x10 x11 := by
  unfold partStored
  congr 1
  · exact (View.readAt_full arg2.view _ _).trans (harg2.read_unread _)
  · exact (View.readAt_full arg3.view _ _).trans (harg3.read_unread _)
  · exact View.readAt_full arg16.view _ _
  · exact (View.readAt_full arg11.view _ _).trans (harg11.read_unread _)
  · exact (View.readAt_full arg12.view _ _).trans (harg12.read_unread _)
  · exact (View.readAt_full arg13.view _ _).trans (harg13.read_unread _)

/-- A later row store in the values the buffers hold. -/
theorem sumStored_eq (ho : ∀ a, rowOff i a + S512x64.size a ≤ S4096x64.size a) :
    sumStored i arg2 harg2 arg3 harg3 arg11 harg11 arg12 harg12 arg13 harg13 arg16 arg18 harg18 x0 x1 x9 x10 x11 s18 fw ho = k0_pay42 x0 x1 (View.read (Elt F) arg16.view fw) x9 x10 x11 (window s18 (rowOff i) S512x64.size ho) := by
  unfold sumStored
  congr 1
  · exact (View.readAt_full arg2.view _ _).trans (harg2.read_unread _)
  · exact (View.readAt_full arg3.view _ _).trans (harg3.read_unread _)
  · exact View.readAt_full arg16.view _ _
  · exact (View.readAt_full arg11.view _ _).trans (harg11.read_unread _)
  · exact (View.readAt_full arg12.view _ _).trans (harg12.read_unread _)
  · exact (View.readAt_full arg13.view _ _).trans (harg13.read_unread _)
  · exact (View.readAt_unit arg18.view _ _ rfl ho).trans (by rw [harg18.read_unread])

/-- A row store over the accumulator leaves it with those rows put. -/
theorem put18 (ho : ∀ a, rowOff i a + S512x64.size a ≤ S4096x64.size a) {w w' : FVec F S512x64 .f32} (h : w = w') :
    View.read (Elt F) arg18.view (arg18.view.writes (Elt F) (harg18.unread s18) [⟨Rect.unit (s := S4096x64) (rowOff i) S512x64.size ho, w⟩])
      = put s18 (rowOff i) S512x64.size w' := by
  subst h
  refine (View.read_writes_cons_put (Val := Elt F) arg18.view _ ho w [] rfl).trans ?_
  rw [View.writes_nil, harg18.read_unread]

/-- A row store over the projection's buffer, the same. -/
theorem put15 (ho : ∀ a, rowOff i a + S512x64.size a ≤ S4096x64.size a) {w w' : FVec F S512x64 .bf16} (h : w = w') :
    View.read (Elt F) arg15.view (arg15.view.writes (Elt F) (harg15.unread y15) [⟨Rect.unit (s := S4096x64) (rowOff i) S512x64.size ho, w⟩])
      = put y15 (rowOff i) S512x64.size w' := by
  subst h
  refine (View.read_writes_cons_put (Val := Elt F) arg15.view _ ho w [] rfl).trans ?_
  rw [View.writes_nil, harg15.read_unread]

/-- The stored block is the gated product. -/
theorem put14 : View.read (Elt F) arg14.view (arg14.view.writes (Elt F) f12
      [⟨Rect.unit ![0, 0] S512x512.size inb_S512x512_S512x512_0_0, hStored arg2 harg2 arg3 harg3 arg11 harg11 arg12 harg12 arg16 x0 x1 x9 x10 fw⟩])
    = k0_pay39 x0 x1 (View.read (Elt F) arg16.view fw) x9 x10 :=
  (View.read_writes_full arg14.view f12 inb_S512x512_S512x512_0_0 _ []).trans (hStored_eq arg2 harg2 arg3 harg3 arg11 harg11 arg12 harg12 arg16 x0 x1 x9 x10 fw)

/-- What is left at a point of the first column block. -/
theorem left_first (ho : ∀ a, rowOff i a + S512x64.size a ≤ S4096x64.size a) (hc2 : k0_cond2 i = 1#1) (hc4 : ¬ k0_cond4 i = 1#1) :
    Left i ho x0 x1 x9 x10 x11 y15 s18
      (View.read (Elt F) arg14.view (arg14.view.writes (Elt F) f12
        [⟨Rect.unit ![0, 0] S512x512.size inb_S512x512_S512x512_0_0, hStored arg2 harg2 arg3 harg3 arg11 harg11 arg12 harg12 arg16 x0 x1 x9 x10 fw⟩]))
      (View.read (Elt F) arg15.view (harg15.unread y15)) (View.read (Elt F) arg16.view fw)
      (View.read (Elt F) arg18.view (arg18.view.writes (Elt F) (harg18.unread s18)
        [⟨Rect.unit (s := S4096x64) (rowOff i) S512x64.size ho, partStored arg2 harg2 arg3 harg3 arg11 harg11 arg12 harg12 arg13 harg13 arg16 x0 x1 x9 x10 x11 fw⟩])) := by
  exact ⟨put14 arg2 harg2 arg3 harg3 arg11 harg11 arg12 harg12 arg14 arg16 x0 x1 x9 x10 f12 fw, fun _ => put18 i arg18 harg18 s18 ho (partStored_eq arg2 harg2 arg3 harg3 arg11 harg11 arg12 harg12 arg13 harg13 arg16 x0 x1 x9 x10 x11 fw), fun h => absurd hc2 h, fun h => absurd h hc4, fun _ => harg15.read_unread _⟩

/-- What is left at a point of a later column block but the last. -/
theorem left_mid (ho : ∀ a, rowOff i a + S512x64.size a ≤ S4096x64.size a) (hc2 : ¬ k0_cond2 i = 1#1) (hc4 : ¬ k0_cond4 i = 1#1) :
    Left i ho x0 x1 x9 x10 x11 y15 s18
      (View.read (Elt F) arg14.view (arg14.view.writes (Elt F) f12
        [⟨Rect.unit ![0, 0] S512x512.size inb_S512x512_S512x512_0_0, hStored arg2 harg2 arg3 harg3 arg11 harg11 arg12 harg12 arg16 x0 x1 x9 x10 fw⟩]))
      (View.read (Elt F) arg15.view (harg15.unread y15)) (View.read (Elt F) arg16.view fw)
      (View.read (Elt F) arg18.view (arg18.view.writes (Elt F) (harg18.unread s18)
        [⟨Rect.unit (s := S4096x64) (rowOff i) S512x64.size ho, sumStored i arg2 harg2 arg3 harg3 arg11 harg11 arg12 harg12 arg13 harg13 arg16 arg18 harg18 x0 x1 x9 x10 x11 s18 fw ho⟩])) := by
  exact ⟨put14 arg2 harg2 arg3 harg3 arg11 harg11 arg12 harg12 arg14 arg16 x0 x1 x9 x10 f12 fw, fun h => absurd h hc2, fun _ => put18 i arg18 harg18 s18 ho (sumStored_eq i arg2 harg2 arg3 harg3 arg11 harg11 arg12 harg12 arg13 harg13 arg16 arg18 harg18 x0 x1 x9 x10 x11 s18 fw ho), fun h => absurd h hc4, fun _ => harg15.read_unread _⟩

/-- The last store's rows are the row block's. -/
theorem off9_eq : k0_off9 i = rowOff i := (k0_off9_eq i).trans (k0_off7_eq i).symm

/-- A covered load of the rows just stored reads what was stored. -/
theorem cov18 {o : Fin 2 → Nat} (ho : ∀ a, o a + S512x64.size a ≤ S4096x64.size a) (w : FVec F S512x64 .f32) :
    arg18.view.readCov [(⟨Rect.unit (s := S4096x64) o S512x64.size ho, w⟩ : View.Piece (Elt F) S4096x64 .f32)] (Rect.unit (s := S4096x64) o S512x64.size ho).toLoadRect = w := by
  unfold View.readCov
  refine (View.readAt_unit arg18.view _ ho rfl ho).trans ?_
  refine (congrArg (fun X : S4096x64.Idx → Elt F .f32 => window X o S512x64.size ho) (View.read_writes_cons_put (Val := Elt F) arg18.view _ ho w [] rfl)).trans ?_
  exact VecWindow.window_put_same ..

/-- What is left at a point of the last column block. -/
theorem left_last (ho : ∀ a, rowOff i a + S512x64.size a ≤ S4096x64.size a) (hc2 : ¬ k0_cond2 i = 1#1) (hc4 : k0_cond4 i = 1#1)
    {o : Fin 2 → Nat} (e : o = rowOff i) (ho9 : ∀ a, o a + S512x64.size a ≤ S4096x64.size a) :
    Left i ho x0 x1 x9 x10 x11 y15 s18
      (View.read (Elt F) arg14.view (arg14.view.writes (Elt F) f12
        [⟨Rect.unit ![0, 0] S512x512.size inb_S512x512_S512x512_0_0, hStored arg2 harg2 arg3 harg3 arg11 harg11 arg12 harg12 arg16 x0 x1 x9 x10 fw⟩]))
      (View.read (Elt F) arg15.view (arg15.view.writes (Elt F) (harg15.unread y15)
        [⟨Rect.unit (s := S4096x64) o S512x64.size ho9, k0_pay1 (arg18.view.readCov
            [⟨Rect.unit (s := S4096x64) (rowOff i) S512x64.size ho, sumStored i arg2 harg2 arg3 harg3 arg11 harg11 arg12 harg12 arg13 harg13 arg16 arg18 harg18 x0 x1 x9 x10 x11 s18 fw ho⟩]
            (Rect.unit (s := S4096x64) o S512x64.size ho9).toLoadRect)⟩]))
      (View.read (Elt F) arg16.view fw)
      (View.read (Elt F) arg18.view (arg18.view.writes (Elt F) (harg18.unread s18)
        [⟨Rect.unit (s := S4096x64) (rowOff i) S512x64.size ho, sumStored i arg2 harg2 arg3 harg3 arg11 harg11 arg12 harg12 arg13 harg13 arg16 arg18 harg18 x0 x1 x9 x10 x11 s18 fw ho⟩])) := by
  subst e
  refine ⟨put14 arg2 harg2 arg3 harg3 arg11 harg11 arg12 harg12 arg14 arg16 x0 x1 x9 x10 f12 fw, fun h => absurd h hc2, fun _ => put18 i arg18 harg18 s18 ho (sumStored_eq i arg2 harg2 arg3 harg3 arg11 harg11 arg12 harg12 arg13 harg13 arg16 arg18 harg18 x0 x1 x9 x10 x11 s18 fw ho),
    fun _ => put15 i arg15 harg15 y15 ho (congrArg k0_pay1 ((cov18 arg18 ho _).trans ?_)), fun h => absurd hc4 h⟩
  exact ((congrArg (fun X : S4096x64.Idx → Elt F .f32 => window X (rowOff i) S512x64.size ho) (put18 i arg18 harg18 s18 ho rfl)).trans (VecWindow.window_put_same ..)).symm

end Close

section Filled

variable (c : Dev nD) (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x2x1024 .bf16) (harg17 : arg17.IsWhole)
  (arg18 : Memref sig .tc .vmem S4096x64 .f32) (harg18 : arg18.IsWhole)
  (x0 : Vec F S512x8192 .bf16) (x1 : Vec F S512x64 .bf16) (x2 : Vec F S1x128 .f32) (x3 x4 : Vec F S4096x512 .i8) (x5 x6 : Vec F S128x512 .i8)
  (x7 x8 : Vec F S2x128x1 .f32) (x9 x10 : Vec F S64x512 .bf16) (x11 : Vec F S512x64 .bf16)
  (y15 : Vec F S4096x64 .bf16) (s16 : Vec F S8192x1024 .bf16) (s18 : Vec F S4096x64 .f32)

/-- The absmax pairs' scratch after its four stores. -/
def am17 : BufTy.Contents (Elt F) arg17.view.ty :=
  arg17.view.writes (Elt F) arg17.view.junk
    [⟨Rect.unit (s := S128x2x1024) ![0, 0, 768] S128x2x256.size inb_S128x2x1024_S128x2x256_0_0_768, k0_pay34
        (View.readAt (Elt F) arg8.view (Rect.unit (s := S128x512) ![0, 256] S128x256.size inb_S128x512_S128x256_0_256).toLoadRect (harg8.unread x6))
        (View.readAt (Elt F) arg10.view (Rect.unit (s := S2x128x1) ![1, 0, 0] S1x128x1.size inb_S2x128x1_S1x128x1_1_0_0).toLoadRect (harg10.unread x8))⟩,
     ⟨Rect.unit (s := S128x2x1024) ![0, 0, 512] S128x2x256.size inb_S128x2x1024_S128x2x256_0_0_512, k0_pay33 (k0_pay32
        (View.readAt (Elt F) arg8.view (Rect.unit (s := S128x512) ![0, 0] S128x256.size inb_S128x512_S128x256_0_0).toLoadRect (harg8.unread x6)))
        (View.readAt (Elt F) arg10.view (Rect.unit (s := S2x128x1) ![0, 0, 0] S1x128x1.size inb_S2x128x1_S1x128x1_0_0_0).toLoadRect (harg10.unread x8))⟩,
     ⟨Rect.unit (s := S128x2x1024) ![0, 0, 256] S128x2x256.size inb_S128x2x1024_S128x2x256_0_0_256, k0_pay31
        (View.readAt (Elt F) arg7.view (Rect.unit (s := S128x512) ![0, 256] S128x256.size inb_S128x512_S128x256_0_256).toLoadRect (harg7.unread x5))
        (View.readAt (Elt F) arg9.view (Rect.unit (s := S2x128x1) ![1, 0, 0] S1x128x1.size inb_S2x128x1_S1x128x1_1_0_0).toLoadRect (harg9.unread x7))⟩,
     ⟨Rect.unit (s := S128x2x1024) ![0, 0, 0] S128x2x256.size inb_S128x2x1024_S128x2x256_0_0_0, k0_pay30
        (View.readAt (Elt F) arg7.view (Rect.unit (s := S128x512) ![0, 0] S128x256.size inb_S128x512_S128x256_0_0).toLoadRect (harg7.unread x5))
        (View.readAt (Elt F) arg9.view (Rect.unit (s := S2x128x1) ![0, 0, 0] S1x128x1.size inb_S2x128x1_S1x128x1_0_0_0).toLoadRect (harg9.unread x7))⟩]

/-- The weight scratch after the two dequantisation loops. -/
def filled (hc1 : k0_cond1 i = 1#1) : BufTy.Contents (Elt F) arg16.view.ty :=
  arg16.view.writes (Elt F) (harg16.unread s16)
    (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1
        (View.readAt (Elt F) arg4.view (Rect.unit (s := S1x128) ![0, 0] S1x128.size inb_S1x128_S1x128_0_0).toLoadRect (harg4.unread x2))
        (harg6.unread x4) (am17 arg7 harg7 arg8 harg8 arg9 harg9 arg10 harg10 arg17 x5 x6 x7 x8)
        (Scf.trips k0_t2_loop.lb k0_t2_loop.ub k0_t2_loop.st)
      ++ pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1
        (k0_pay32 (View.readAt (Elt F) arg8.view (Rect.unit (s := S128x512) ![0, 0] S128x256.size inb_S128x512_S128x256_0_0).toLoadRect (harg8.unread x6)))
        (View.readAt (Elt F) arg4.view (Rect.unit (s := S1x128) ![0, 0] S1x128.size inb_S1x128_S1x128_0_0).toLoadRect (harg4.unread x2))
        (harg5.unread x3) (am17 arg7 harg7 arg8 harg8 arg9 harg9 arg10 harg10 arg17 x5 x6 x7 x8)
        (Scf.trips k0_t1_loop.lb k0_t1_loop.ub k0_t1_loop.st))

end Filled

end Cert.GateUpIdeal.Gen

end
-- ==== Proof.GateUpFill.lean ====
/- What the gate and up call's two dequantisation loops leave in the weight scratch. -/
module

public import proofs.«01_k».proof.Proof.Gen.GateUpIdeal.Loops
public import proofs.«01_k».proof.Proof.GateUpTile
public import proofs.«01_k».proof.Proof.GateUpLeft
public import Idealize.ShloMosaic.Lib.Pipeline.Value

@[expose] public section

set_option maxRecDepth 16384

noncomputable section

open Idealize.ShloMosaic Idealize.ShloMosaic.TcCoe Idealize.SL.Sem

namespace Cert.GateUpIdeal.Tile

open Cert.GateUpIdeal Cert.GateUpIdeal.Gen
open Cert.DownIdeal.Tile (nib)

/-- The dequantised weights of a column block: the gate half's columns, then the up half's. Row `r` column `j` is the
    table at the code of parity `r % 2` in byte row `r / 2`, times row `r / 64` of the absmax rows. -/
def wfill (tab : FVec Ideal S1x128 .f32) (cg cu : Vec Ideal S4096x512 .i8) (am : Vec Ideal S128x2x1024 .bf16) :
    Vec Ideal S8192x1024 .bf16 := fun y =>
  (show EReal from tab (ix2 0 ((nib ((y 0).val % 2)
    (if h : (y 1).val < 512 then cg (ix2 ⟨(y 0).val / 2, by have := (y 0).isLt; simp at this; omega⟩ ⟨(y 1).val, h⟩)
      else cu (ix2 ⟨(y 0).val / 2, by have := (y 0).isLt; simp at this; omega⟩ ⟨(y 1).val - 512, by have := (y 1).isLt; simp at this; omega⟩))).castLE (by norm_num)))) *
    (show EReal from am (ix3 ⟨(y 0).val / 64, by have := (y 0).isLt; simp at this; omega⟩ 0 (y 1)))

/-- They read at an index of the gate half. -/
theorem wfill_gate (tab : FVec Ideal S1x128 .f32) (cg cu : Vec Ideal S4096x512 .i8) (am : Vec Ideal S128x2x1024 .bf16)
    (y : S8192x1024.Idx) (r : Nat) (j : Fin 512) (p : Nat) (hr : r < 8192) (hp : r % 2 = p) (h0 : (y 0).val = r) (h1 : (y 1).val = j.val) :
    wfill tab cg cu am y = (show EReal from tab (ix2 0 ((nib p (cg (ix2 ⟨r / 2, by omega⟩ j))).castLE (by norm_num)))) *
      (show EReal from am (ix3 ⟨r / 64, by omega⟩ 0 ⟨j.val, by omega⟩)) := by
  obtain rfl : y = ix2 ⟨r, hr⟩ ⟨j.val, Nat.lt_of_lt_of_le j.isLt (by norm_num)⟩ := (eq_ix2 y).trans ((ix2_inj ..).2 ⟨Fin.ext h0, Fin.ext h1⟩)
  subst hp
  unfold wfill
  rw [dif_pos (show ((ix2 (⟨r, hr⟩ : Fin 8192) (⟨j.val, Nat.lt_of_lt_of_le j.isLt (by norm_num)⟩ : Fin 1024)) 1).val < 512 from j.isLt)]
  rfl

/-- They read at an index of the up half. -/
theorem wfill_up (tab : FVec Ideal S1x128 .f32) (cg cu : Vec Ideal S4096x512 .i8) (am : Vec Ideal S128x2x1024 .bf16)
    (y : S8192x1024.Idx) (r : Nat) (j : Fin 512) (p : Nat) (hr : r < 8192) (hp : r % 2 = p) (h0 : (y 0).val = r) (h1 : (y 1).val = 512 + j.val) :
    wfill tab cg cu am y = (show EReal from tab (ix2 0 ((nib p (cu (ix2 ⟨r / 2, by omega⟩ j))).castLE (by norm_num)))) *
      (show EReal from am (ix3 ⟨r / 64, by omega⟩ 0 ⟨512 + j.val, by omega⟩)) := by
  obtain rfl : y = ix2 ⟨r, hr⟩ ⟨512 + j.val, Nat.add_lt_add_left j.isLt 512⟩ := (eq_ix2 y).trans ((ix2_inj ..).2 ⟨Fin.ext h0, Fin.ext h1⟩)
  subst hp
  unfold wfill
  rw [dif_neg (show ¬ ((ix2 (⟨r, hr⟩ : Fin 8192) (⟨512 + j.val, Nat.add_lt_add_left j.isLt 512⟩ : Fin 1024)) 1).val < 512 from fun h => by
    have h' : 512 + j.val < 512 := h
    omega)]
  exact congrArg (fun z : Fin 512 => (show EReal from tab (ix2 0 ((nib (r % 2) (cu (ix2 ⟨r / 2, by omega⟩ z))).castLE (by norm_num)))) *
    (show EReal from am (ix3 ⟨r / 64, by omega⟩ 0 ⟨512 + j.val, by omega⟩))) (Fin.ext (by show 512 + j.val - 512 = j.val; omega))

/-- The block a trip stores, `32 n` byte rows down and `col` columns in, is the dequantised weights' there. -/
theorem block_eq (tb : FVec Ideal S1x128 .f32) (XC cg cu : Vec Ideal S4096x512 .i8) (am : Vec Ideal S128x2x1024 .bf16) (n col : Nat)
    (o1 : Fin 2 → Nat) (o2 : Fin 3 → Nat) (o3 : Fin 2 → Nat)
    (i1 : ∀ a, o1 a + S32x512.size a ≤ S4096x512.size a) (i2 : ∀ a, o2 a + S1x2x512.size a ≤ S128x2x1024.size a)
    (i3 : ∀ a, o3 a + S64x512.size a ≤ S8192x1024.size a)
    (e1 : o1 = ![32 * n, 0]) (e2 : o2 = ![n, 0, col]) (e3 : o3 = ![64 * n, col])
    (hc : (col = 0 ∧ XC = cg) ∨ (col = 512 ∧ XC = cu)) (r : Fin 64) (j : Fin 512) :
    tripPay tb (fun y => XC ((Rect.unit (s := S4096x512) o1 S32x512.size i1).idx y))
        (fun y => am ((Rect.unit (s := S128x2x1024) o2 S1x2x512.size i2).idx y)) (ix2 r j)
      = wfill tb cg cu am ((Rect.unit (s := S8192x1024) o3 S64x512.size i3).emb (ix2 r j)) := by
  subst e1 e2 e3
  have hn : 64 * n + 64 ≤ 8192 := i3 0
  have hcol : col + 512 ≤ 1024 := i3 1
  refine (tripPay_at _ _ _ r j _ rfl).trans ?_
  have ec : (Rect.unit (s := S4096x512) ![32 * n, 0] S32x512.size i1).idx (ix2 ⟨r.val / 2, by omega⟩ j)
      = ix2 ⟨(64 * n + r.val) / 2, by omega⟩ j :=
    (eq_ix2 _).trans ((ix2_inj ..).2 ⟨Fin.ext (by show 32 * n + 1 * (r.val / 2) = (64 * n + r.val) / 2; omega),
      Fin.ext (by show 0 + 1 * j.val = j.val; omega)⟩)
  have ea : (Rect.unit (s := S128x2x1024) ![n, 0, col] S1x2x512.size i2).idx (ix3 0 0 j)
      = ix3 ⟨(64 * n + r.val) / 64, by omega⟩ 0 ⟨col + j.val, by omega⟩ :=
    (eq_ix3 _).trans ((ix3_inj ..).2 ⟨Fin.ext (by show n + 1 * 0 = (64 * n + r.val) / 64; omega), Fin.ext (by show 0 + 1 * 0 = 0; omega),
      Fin.ext (by show col + 1 * j.val = col + j.val; omega)⟩)
  refine (congrArg₂ (fun (a : BitVec 8) (b : EReal) =>
    (show EReal from tb (ix2 0 ((nib (r.val % 2) a).castLE (by norm_num)))) * b) (congrArg XC ec) (congrArg am ea)).trans ?_
  have e0 : ((Rect.unit (s := S8192x1024) ![64 * n, col] S64x512.size i3).emb (ix2 r j) 0).val = 64 * n + r.val := by
    show 64 * n + 1 * r.val = _; omega
  have e1 : ((Rect.unit (s := S8192x1024) ![64 * n, col] S64x512.size i3).emb (ix2 r j) 1).val = col + j.val := by
    show col + 1 * j.val = _; omega
  rcases hc with ⟨rfl, rfl⟩ | ⟨rfl, rfl⟩
  · refine Eq.trans ?_ (wfill_gate tb _ cu am _ (64 * n + r.val) j (r.val % 2) (by omega) (by omega) e0 (by omega)).symm
    exact congrArg (fun z : Fin 1024 => _ * (show EReal from am (ix3 ⟨(64 * n + r.val) / 64, by omega⟩ 0 z)))
      (Fin.ext (by show 0 + j.val = j.val; omega))
  · exact (wfill_up tb cg _ am _ (64 * n + r.val) j (r.val % 2) (by omega) (by omega) e0 e1).symm

section Loops

variable (𝒱 : Variants) (c : Dev nD) (bd : Option 𝒱.V) (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x2x1024 .bf16) (harg17 : arg17.IsWhole)
  (arg18 : Memref sig .tc .vmem S4096x64 .f32) (harg18 : arg18.IsWhole)
  (k0_h1 : k0_cond1 i = 1#1)

section gate

variable (v67 : FVec Ideal S128x256 .f32) (tb : Vec Ideal S1x128 .f32) (XC : BufTy.Contents (Elt Ideal) arg5.view.ty) (X17 : BufTy.Contents (Elt Ideal) arg17.view.ty)

/-- The piece trip `k` of the gate half's loop writes. -/
theorem trip_eq1 (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v67 tb XC X17 k
      = [⟨Rect.unit (s := S8192x1024) (k0_off3 k) S64x512.size (k0_off3_inb i k k0_h1),
          tripPay (k0_pay35 tb)
            (arg5.view.readAt (Elt Ideal) (Rect.unit (s := S4096x512) (k0_off1 k) S32x512.size (k0_off1_inb i k k0_h1)).toLoadRect XC)
            (arg17.view.readAt (Elt Ideal) (Rect.unit (s := S128x2x1024) (k0_off2 k) S1x2x512.size (k0_off2_inb i k k0_h1)).toLoadRect X17)⟩] := by
  unfold tripL_k0_t1 trip_k0_t1
  rfl

/-- Every piece of its first `n` trips is a block of the dequantised weights. -/
theorem pb_pieces1 (cu : Vec Ideal S4096x512 .i8) (n : Nat) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v67 tb XC X17 n, ∀ x : p.1.shape.Idx,
      p.2 x = wfill (k0_pay35 tb) (arg5.view.read (Elt Ideal) XC) cu (arg17.view.read (Elt Ideal) X17) (p.1.emb x) := by
  induction n with
  | zero => intro p hp; exact absurd hp List.not_mem_nil
  | succ n ih =>
    intro p hp x
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v67 tb XC X17 ⟨n, hn⟩, trip_eq1] at hp
    rcases List.mem_cons.mp hp with rfl | hp
    · obtain ⟨r, j, rfl⟩ : ∃ (r : Fin 64) (j : Fin 512), x = ix2 r j := ⟨x 0, x 1, eq_ix2 x⟩
      exact block_eq (k0_pay35 tb) (arg5.view.read (Elt Ideal) XC) _ cu (arg17.view.read (Elt Ideal) X17) n 0 _ _ _
        (k0_off1_inb i ⟨n, hn⟩ k0_h1) (k0_off2_inb i ⟨n, hn⟩ k0_h1) (k0_off3_inb i ⟨n, hn⟩ k0_h1) (k0_off1_eq ⟨n, hn⟩) (k0_off2_eq ⟨n, hn⟩) (k0_off3_eq ⟨n, hn⟩) (Or.inl ⟨rfl, rfl⟩) r j
    · exact ih (Nat.le_of_succ_le hn) p hp x

/-- Its first `n` trips cover rows below `64 n` of the half's columns. -/
theorem pb_cover1 (n : Nat) (hn : n ≤ k0_t1_loop.trips) (y : S8192x1024.Idx) (h0 : (y 0).val < 64 * n)
    (h1 : 0 ≤ (y 1).val) (h2 : (y 1).val < 0 + 512) :
    ∃ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v67 tb XC X17 n, y ∈ p.1.set := by
  induction n with
  | zero => exact absurd h0 (by omega)
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v67 tb XC X17 ⟨n, hn⟩, trip_eq1]
    by_cases hlt : (y 0).val < 64 * n
    · obtain ⟨p, hp, hy⟩ := ih (Nat.le_of_succ_le hn) hlt
      exact ⟨p, List.mem_cons_of_mem _ hp, hy⟩
    · refine ⟨_, List.mem_cons_self, (Rect.mem_set_unit (inb := k0_off3_inb i ⟨n, hn⟩ k0_h1)).2 fun a => ?_⟩
      rw [k0_off3_eq]
      match a with
      | ⟨0, _⟩ => exact ⟨by show 64 * n ≤ (y 0).val; omega, by show (y 0).val < 64 * n + 64; omega⟩
      | ⟨1, _⟩ => exact ⟨h1, h2⟩

end gate

section up

variable (tb : Vec Ideal S1x128 .f32) (XC : BufTy.Contents (Elt Ideal) arg6.view.ty) (X17 : BufTy.Contents (Elt Ideal) arg17.view.ty)

/-- The piece trip `k` of the up half's loop writes. -/
theorem trip_eq2 (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 tb XC X17 k
      = [⟨Rect.unit (s := S8192x1024) (k0_off6 k) S64x512.size (k0_off6_inb i k k0_h1),
          tripPay2 (k0_pay37 tb)
            (arg6.view.readAt (Elt Ideal) (Rect.unit (s := S4096x512) (k0_off4 k) S32x512.size (k0_off4_inb i k k0_h1)).toLoadRect XC)
            (arg17.view.readAt (Elt Ideal) (Rect.unit (s := S128x2x1024) (k0_off5 k) S1x2x512.size (k0_off5_inb i k k0_h1)).toLoadRect X17)⟩] := by
  unfold tripL_k0_t2 trip_k0_t2
  rfl

/-- Every piece of its first `n` trips is a block of the dequantised weights. -/
theorem pb_pieces2 (cg : Vec Ideal S4096x512 .i8) (n : Nat) (hn : n ≤ k0_t2_loop.trips) :
    ∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 tb XC X17 n, ∀ x : p.1.shape.Idx,
      p.2 x = wfill (k0_pay37 tb) cg (arg6.view.read (Elt Ideal) XC) (arg17.view.read (Elt Ideal) X17) (p.1.emb x) := by
  induction n with
  | zero => intro p hp; exact absurd hp List.not_mem_nil
  | succ n ih =>
    intro p hp x
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 tb XC X17 ⟨n, hn⟩, trip_eq2] at hp
    rcases List.mem_cons.mp hp with rfl | hp
    · obtain ⟨r, j, rfl⟩ : ∃ (r : Fin 64) (j : Fin 512), x = ix2 r j := ⟨x 0, x 1, eq_ix2 x⟩
      exact block_eq (k0_pay37 tb) (arg6.view.read (Elt Ideal) XC) cg _ (arg17.view.read (Elt Ideal) X17) n 512 _ _ _
        (k0_off4_inb i ⟨n, hn⟩ k0_h1) (k0_off5_inb i ⟨n, hn⟩ k0_h1) (k0_off6_inb i ⟨n, hn⟩ k0_h1) (k0_off4_eq ⟨n, hn⟩) (k0_off5_eq ⟨n, hn⟩) (k0_off6_eq ⟨n, hn⟩) (Or.inr ⟨rfl, rfl⟩) r j
    · exact ih (Nat.le_of_succ_le hn) p hp x

/-- Its first `n` trips cover rows below `64 n` of the half's columns. -/
theorem pb_cover2 (n : Nat) (hn : n ≤ k0_t2_loop.trips) (y : S8192x1024.Idx) (h0 : (y 0).val < 64 * n)
    (h1 : 512 ≤ (y 1).val) (h2 : (y 1).val < 512 + 512) :
    ∃ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 tb XC X17 n, y ∈ p.1.set := by
  induction n with
  | zero => exact absurd h0 (by omega)
  | succ n ih =>
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 tb XC X17 ⟨n, hn⟩, trip_eq2]
    by_cases hlt : (y 0).val < 64 * n
    · obtain ⟨p, hp, hy⟩ := ih (Nat.le_of_succ_le hn) hlt
      exact ⟨p, List.mem_cons_of_mem _ hp, hy⟩
    · refine ⟨_, List.mem_cons_self, (Rect.mem_set_unit (inb := k0_off6_inb i ⟨n, hn⟩ k0_h1)).2 fun a => ?_⟩
      rw [k0_off6_eq]
      match a with
      | ⟨0, _⟩ => exact ⟨by show 64 * n ≤ (y 0).val; omega, by show (y 0).val < 64 * n + 64; omega⟩
      | ⟨1, _⟩ => exact ⟨h1, h2⟩

end up

end Loops

/-- The absmax pair rows the body stores: both rows of block `g` hold the code times its group's scale. -/
def amfill (c5 c6 : Vec Ideal S128x512 .i8) (s7 s8 : Vec Ideal S2x128x1 .f32) : Vec Ideal S128x2x1024 .bf16 := fun y =>
  if h : (y 2).val < 512 then
    (show EReal from FloatOps.sitofp (F := Ideal) .f32 (c5 (ix2 (y 0) ⟨(y 2).val, h⟩))) *
      (show EReal from s7 (ix3 ⟨(y 2).val / 256, by omega⟩ (y 0) 0))
  else
    (show EReal from FloatOps.sitofp (F := Ideal) .f32 (c6 (ix2 (y 0) ⟨(y 2).val - 512, by have := (y 2).isLt; simp at this; omega⟩))) *
      (show EReal from s8 (ix3 ⟨((y 2).val - 512) / 256, by have := (y 2).isLt; simp at this; omega⟩ (y 0) 0))

/-- They read at an index of the gate half. -/
theorem amfill_gate (c5 c6 : Vec Ideal S128x512 .i8) (s7 s8 : Vec Ideal S2x128x1 .f32) (y : S128x2x1024.Idx) (g : Fin 128) (j : Fin 512)
    (s : Fin 2) (h0 : (y 0).val = g.val) (h2 : (y 2).val = j.val) (hs : j.val / 256 = s.val) :
    amfill c5 c6 s7 s8 y = (show EReal from FloatOps.sitofp (F := Ideal) .f32 (c5 (ix2 g j))) * (show EReal from s7 (ix3 s g 0)) := by
  obtain ⟨q, rfl⟩ : ∃ q : Fin 2, y = ix3 g q ⟨j.val, Nat.lt_of_lt_of_le j.isLt (by norm_num)⟩ := ⟨y 1, (eq_ix3 y).trans ((ix3_inj ..).2 ⟨Fin.ext h0, rfl, Fin.ext h2⟩)⟩
  unfold amfill
  rw [dif_pos (show ((ix3 g q (⟨j.val, Nat.lt_of_lt_of_le j.isLt (by norm_num)⟩ : Fin 1024)) 2).val < 512 from j.isLt)]
  exact congrArg (fun z : Fin 2 => (show EReal from FloatOps.sitofp (F := Ideal) .f32 (c5 (ix2 g j))) * (show EReal from s7 (ix3 z g 0))) (Fin.ext hs)

/-- They read at an index of the up half. -/
theorem amfill_up (c5 c6 : Vec Ideal S128x512 .i8) (s7 s8 : Vec Ideal S2x128x1 .f32) (y : S128x2x1024.Idx) (g : Fin 128) (j : Fin 512)
    (s : Fin 2) (h0 : (y 0).val = g.val) (h2 : (y 2).val = 512 + j.val) (hs : j.val / 256 = s.val) :
    amfill c5 c6 s7 s8 y = (show EReal from FloatOps.sitofp (F := Ideal) .f32 (c6 (ix2 g j))) * (show EReal from s8 (ix3 s g 0)) := by
  obtain ⟨q, rfl⟩ : ∃ q : Fin 2, y = ix3 g q ⟨512 + j.val, Nat.add_lt_add_left j.isLt 512⟩ := ⟨y 1, (eq_ix3 y).trans ((ix3_inj ..).2 ⟨Fin.ext h0, rfl, Fin.ext h2⟩)⟩
  unfold amfill
  rw [dif_neg (show ¬ ((ix3 g q (⟨512 + j.val, Nat.add_lt_add_left j.isLt 512⟩ : Fin 1024)) 2).val < 512 from fun h => by
    have h' : 512 + j.val < 512 := h
    omega)]
  have ej : 512 + j.val - 512 = j.val := by omega
  exact congrArg₂ (fun (w : Fin 512) (z : Fin 2) => (show EReal from FloatOps.sitofp (F := Ideal) .f32 (c6 (ix2 g w))) * (show EReal from s8 (ix3 z g 0)))
    (Fin.ext ej) (Fin.ext (by show (512 + j.val - 512) / 256 = _; rw [ej]; exact hs))

/-- A store's payload at an index: the code times its group's scale, on both rows. -/
theorem pay30_at (v : Vec Ideal S128x256 .i8) (w : Vec Ideal S1x128x1 .f32) (g : Fin 128) (q : Fin 2) (j : Fin 256) :
    k0_pay30 (F := Ideal) v w (ix3 g q j) = (show EReal from FloatOps.sitofp (F := Ideal) .f32 (v (ix2 g j))) *
      (show EReal from w (ix3 0 g 0)) := by
  pointwise [k0_pay30]
  exact ite_self _

/-- The block of pairs a store writes, `256 s` columns into a half, is `amfill`'s there. -/
theorem amblock_eq (cc c5 c6 : Vec Ideal S128x512 .i8) (sc s7 s8 : Vec Ideal S2x128x1 .f32) (s : Fin 2) (half : Nat)
    (o1 : Fin 2 → Nat) (o2 o3 : Fin 3 → Nat)
    (i1 : ∀ a, o1 a + S128x256.size a ≤ S128x512.size a) (i2 : ∀ a, o2 a + S1x128x1.size a ≤ S2x128x1.size a)
    (i3 : ∀ a, o3 a + S128x2x256.size a ≤ S128x2x1024.size a)
    (e1 : o1 = ![0, 256 * s.val]) (e2 : o2 = ![s.val, 0, 0]) (e3 : o3 = ![0, 0, half + 256 * s.val])
    (hc : (half = 0 ∧ cc = c5 ∧ sc = s7) ∨ (half = 512 ∧ cc = c6 ∧ sc = s8)) (x : S128x2x256.Idx) :
    k0_pay30 (F := Ideal) (fun y => cc ((Rect.unit (s := S128x512) o1 S128x256.size i1).idx y))
        (fun y => sc ((Rect.unit (s := S2x128x1) o2 S1x128x1.size i2).idx y)) x
      = amfill c5 c6 s7 s8 ((Rect.unit (s := S128x2x1024) o3 S128x2x256.size i3).emb x) := by
  subst e1 e2 e3
  obtain ⟨g, q, j, rfl⟩ : ∃ (g : Fin 128) (q : Fin 2) (j : Fin 256), x = ix3 g q j := ⟨x 0, x 1, x 2, eq_ix3 x⟩
  have hs := s.isLt
  refine (pay30_at _ _ g q j).trans ?_
  have ec : (Rect.unit (s := S128x512) ![0, 256 * s.val] S128x256.size i1).idx (ix2 g j) = ix2 g ⟨256 * s.val + j.val, by omega⟩ :=
    (eq_ix2 _).trans ((ix2_inj ..).2 ⟨Fin.ext (by show 0 + 1 * g.val = g.val; omega),
      Fin.ext (by show 256 * s.val + 1 * j.val = 256 * s.val + j.val; omega)⟩)
  have es : (Rect.unit (s := S2x128x1) ![s.val, 0, 0] S1x128x1.size i2).idx (ix3 0 g 0) = ix3 s g 0 :=
    (eq_ix3 _).trans ((ix3_inj ..).2 ⟨Fin.ext (by show s.val + 1 * 0 = s.val; omega), Fin.ext (by show 0 + 1 * g.val = g.val; omega),
      Fin.ext (by show 0 + 1 * 0 = 0; omega)⟩)
  refine (congrArg₂ (fun (a : BitVec 8) (b : EReal) => (show EReal from FloatOps.sitofp (F := Ideal) .f32 a) * b)
    (congrArg cc ec) (congrArg sc es)).trans ?_
  have e0 : ((Rect.unit (s := S128x2x1024) ![0, 0, half + 256 * s.val] S128x2x256.size i3).emb (ix3 g q j) 0).val = g.val := by
    show 0 + 1 * g.val = _; omega
  have e2 : ((Rect.unit (s := S128x2x1024) ![0, 0, half + 256 * s.val] S128x2x256.size i3).emb (ix3 g q j) 2).val
      = half + 256 * s.val + j.val := by
    show half + 256 * s.val + 1 * j.val = _; omega
  rcases hc with ⟨rfl, rfl, rfl⟩ | ⟨rfl, rfl, rfl⟩
  · exact (amfill_gate _ c6 _ s8 _ g ⟨256 * s.val + j.val, by omega⟩ s e0 (by rw [e2]; show 0 + 256 * s.val + j.val = 256 * s.val + j.val; omega)
      (by show (256 * s.val + j.val) / 256 = _; omega)).symm
  · exact (amfill_up c5 _ s7 _ _ g ⟨256 * s.val + j.val, by omega⟩ s e0 (by rw [e2]; show _ = 512 + (256 * s.val + j.val); omega)
      (by show (256 * s.val + j.val) / 256 = _; omega)).symm

section Filled

variable (c : Dev nD) (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x2x1024 .bf16) (harg17 : arg17.IsWhole)
  (arg18 : Memref sig .tc .vmem S4096x64 .f32) (harg18 : arg18.IsWhole)
  (x2 : Vec Ideal S1x128 .f32) (x3 x4 : Vec Ideal S4096x512 .i8) (x5 x6 : Vec Ideal S128x512 .i8) (x7 x8 : Vec Ideal S2x128x1 .f32)
  (s16 : Vec Ideal S8192x1024 .bf16)

/-- The four stores of absmax pairs leave `amfill`. -/
theorem am17_read : View.read (Elt Ideal) arg17.view (am17 arg7 harg7 arg8 harg8 arg9 harg9 arg10 harg10 arg17 x5 x6 x7 x8)
    = amfill x5 x6 x7 x8 := by
  unfold am17
  rw [View.read_writes_junk_eq_canon]
  funext y
  refine View.canon_apply_of_pieces (amfill x5 x6 x7 x8) _ ?_ y ?_
  · intro p hp x
    rcases List.mem_cons.mp hp with rfl | hp
    · refine Eq.trans ?_ (amblock_eq x6 x5 x6 x8 x7 x8 1 512 _ _ _ inb_S128x512_S128x256_0_256 inb_S2x128x1_S1x128x1_1_0_0
        inb_S128x2x1024_S128x2x256_0_0_768 rfl rfl rfl (Or.inr ⟨rfl, rfl, rfl⟩) x)
      exact congrFun (congrArg₂ k0_pay30 (funext fun y => congrFun (harg8.read_unread x6) _) (funext fun y => congrFun (harg10.read_unread x8) _)) x
    rcases List.mem_cons.mp hp with rfl | hp
    · refine Eq.trans ?_ (amblock_eq x6 x5 x6 x8 x7 x8 0 512 _ _ _ inb_S128x512_S128x256_0_0 inb_S2x128x1_S1x128x1_0_0_0
        inb_S128x2x1024_S128x2x256_0_0_512 rfl rfl rfl (Or.inr ⟨rfl, rfl, rfl⟩) x)
      exact congrFun (congrArg₂ k0_pay30 (funext fun y => congrFun (harg8.read_unread x6) _) (funext fun y => congrFun (harg10.read_unread x8) _)) x
    rcases List.mem_cons.mp hp with rfl | hp
    · refine Eq.trans ?_ (amblock_eq x5 x5 x6 x7 x7 x8 1 0 _ _ _ inb_S128x512_S128x256_0_256 inb_S2x128x1_S1x128x1_1_0_0
        inb_S128x2x1024_S128x2x256_0_0_256 rfl rfl rfl (Or.inl ⟨rfl, rfl, rfl⟩) x)
      exact congrFun (congrArg₂ k0_pay30 (funext fun y => congrFun (harg7.read_unread x5) _) (funext fun y => congrFun (harg9.read_unread x7) _)) x
    · obtain rfl := List.mem_singleton.mp hp
      refine Eq.trans ?_ (amblock_eq x5 x5 x6 x7 x7 x8 0 0 _ _ _ inb_S128x512_S128x256_0_0 inb_S2x128x1_S1x128x1_0_0_0
        inb_S128x2x1024_S128x2x256_0_0_0 rfl rfl rfl (Or.inl ⟨rfl, rfl, rfl⟩) x)
      exact congrFun (congrArg₂ k0_pay30 (funext fun y => congrFun (harg7.read_unread x5) _) (funext fun y => congrFun (harg9.read_unread x7) _)) x
  · have h0 : (y 0).val < 128 := (y 0).isLt
    have h1 : (y 1).val < 2 := (y 1).isLt
    have h2 : (y 2).val < 1024 := (y 2).isLt
    have key : ∀ (k : Nat) (inb : ∀ a, (![0, 0, k] : Fin 3 → Nat) a + S128x2x256.size a ≤ S128x2x1024.size a), k ≤ (y 2).val → (y 2).val < k + 256 →
        y ∈ (Rect.unit (s := S128x2x1024) ![0, 0, k] S128x2x256.size inb).set := fun k inb hk hk' =>
      (Rect.mem_set_unit (inb := inb)).2 fun a => match a with
        | ⟨0, _⟩ => ⟨Nat.zero_le _, by show (y 0).val < 0 + 128; omega⟩
        | ⟨1, _⟩ => ⟨Nat.zero_le _, by show (y 1).val < 0 + 2; omega⟩
        | ⟨2, _⟩ => ⟨hk, hk'⟩
    by_cases q3 : 768 ≤ (y 2).val
    · exact ⟨_, List.mem_cons_self, key 768 inb_S128x2x1024_S128x2x256_0_0_768 q3 (by omega)⟩
    by_cases q2 : 512 ≤ (y 2).val
    · exact ⟨_, List.mem_cons_of_mem _ List.mem_cons_self, key 512 inb_S128x2x1024_S128x2x256_0_0_512 q2 (by omega)⟩
    by_cases q1 : 256 ≤ (y 2).val
    · exact ⟨_, List.mem_cons_of_mem _ (List.mem_cons_of_mem _ List.mem_cons_self), key 256 inb_S128x2x1024_S128x2x256_0_0_256 q1 (by omega)⟩
    · exact ⟨_, List.mem_cons_of_mem _ (List.mem_cons_of_mem _ (List.mem_cons_of_mem _ List.mem_cons_self)), key 0 inb_S128x2x1024_S128x2x256_0_0_0 (Nat.zero_le _) (by omega)⟩

/-- The table row each loop reads. -/
theorem tab_eq : k0_pay35 (F := Ideal)
    (View.readAt (Elt Ideal) arg4.view (Rect.unit (s := S1x128) ![0, 0] S1x128.size inb_S1x128_S1x128_0_0).toLoadRect (harg4.unread x2)) = x2 := by
  unfold k0_pay35
  exact (shapeCast_self _ _).trans ((View.readAt_full arg4.view _ _).trans (harg4.read_unread _))

/-- The two loops leave the dequantised weights, whatever the scratch held. -/
theorem filled_read (hc1 : k0_cond1 i = 1#1) :
    View.read (Elt Ideal) arg16.view (filled c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 s16 hc1)
      = wfill x2 x3 x4 (amfill x5 x6 x7 x8) := by
  have t1 : Scf.trips k0_t1_loop.lb k0_t1_loop.ub k0_t1_loop.st = k0_t1_loop.trips := rfl
  have t2 : Scf.trips k0_t2_loop.lb k0_t2_loop.ub k0_t2_loop.st = k0_t2_loop.trips := rfl
  have n1 : k0_t1_loop.trips = 128 := by decide +kernel
  have n2 : k0_t2_loop.trips = 128 := by decide +kernel
  funext y
  have h0 : (y 0).val < 8192 := (y 0).isLt
  have h1 : (y 1).val < 1024 := (y 1).isLt
  unfold filled
  have hcov : ∃ p ∈ (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1
        (View.readAt (Elt Ideal) arg4.view (Rect.unit (s := S1x128) ![0, 0] S1x128.size inb_S1x128_S1x128_0_0).toLoadRect (harg4.unread x2))
        (harg6.unread x4) (am17 arg7 harg7 arg8 harg8 arg9 harg9 arg10 harg10 arg17 x5 x6 x7 x8)
        (Scf.trips k0_t2_loop.lb k0_t2_loop.ub k0_t2_loop.st)
      ++ pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1
        (k0_pay32 (View.readAt (Elt Ideal) arg8.view (Rect.unit (s := S128x512) ![0, 0] S128x256.size inb_S128x512_S128x256_0_0).toLoadRect (harg8.unread x6)))
        (View.readAt (Elt Ideal) arg4.view (Rect.unit (s := S1x128) ![0, 0] S1x128.size inb_S1x128_S1x128_0_0).toLoadRect (harg4.unread x2))
        (harg5.unread x3) (am17 arg7 harg7 arg8 harg8 arg9 harg9 arg10 harg10 arg17 x5 x6 x7 x8)
        (Scf.trips k0_t1_loop.lb k0_t1_loop.ub k0_t1_loop.st)), y ∈ p.1.set := by
    by_cases hy : (y 1).val < 512
    · obtain ⟨p, hp, hm⟩ := pb_cover1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 _ _ _ _ k0_t1_loop.trips le_rfl y (by rw [n1]; omega) (Nat.zero_le _) (by omega)
      exact ⟨p, List.mem_append_right _ hp, hm⟩
    · obtain ⟨p, hp, hm⟩ := pb_cover2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 _ _ _ k0_t2_loop.trips le_rfl y (by rw [n2]; omega) (by omega) (by omega)
      exact ⟨p, List.mem_append_left _ hp, hm⟩
  rw [View.read_writes_apply_eq_canon _ _ y _ hcov]
  refine View.canon_apply_of_pieces (wfill x2 x3 x4 (amfill x5 x6 x7 x8)) _ ?_ y hcov
  intro p hp x
  rcases List.mem_append.mp hp with hp | hp
  · refine (pb_pieces2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 _ _ _ x3 k0_t2_loop.trips le_rfl p hp x).trans ?_
    rw [show @k0_pay37 Ideal _ = @k0_pay35 Ideal _ from rfl, tab_eq, harg6.read_unread, am17_read]
  · refine (pb_pieces1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 _ _ _ _ x4 k0_t1_loop.trips le_rfl p hp x).trans ?_
    rw [tab_eq, harg5.read_unread, am17_read]

end Filled

end Cert.GateUpIdeal.Tile

end
-- ==== Proof.GateUpBlocks.lean ====
/- The blocks of the fused gate and up call, and its payloads over them, by their formulas over the whole arrays. -/
module

public import proofs.«01_k».proof.Proof.GateUpFill

@[expose] public section

set_option maxRecDepth 16384

noncomputable section

open Idealize.ShloMosaic Idealize.ShloMosaic.TcCoe Idealize.SL.Sem

namespace Cert.GateUpIdeal.Tile

open Cert.GateUpIdeal Cert.GateUpIdeal.Gen
open Cert.DownIdeal.Tile (nib)

/-- The dequantised weight at row `k`, column `j`: gate columns first, then the up columns. -/
def wval (tab : Vec Ideal S1x128 .f32) (codes : Vec Ideal S4096x32768 .i8) (c8 : Vec Ideal S128x32768 .i8)
    (s2 : Vec Ideal S128x128x1 .f32) (k : Fin 8192) (j : Fin 32768) : EReal :=
  (show EReal from tab (ix2 0 ((nib (k.val % 2) (codes (ix2 ⟨k.val / 2, by omega⟩ j))).castLE (by norm_num)))) *
    ((show EReal from FloatOps.sitofp (F := Ideal) .f32 (c8 (ix2 ⟨k.val / 64, by omega⟩ j))) *
      (show EReal from s2 (ix3 ⟨j.val / 256, by omega⟩ ⟨k.val / 64, by omega⟩ 0)))

/-- A pre-activation at row `r`, column `j`: the product over the weight plus the adapter's product. -/
def pre (x : Vec Ideal S4096x8192 .bf16) (xa : Vec Ideal S4096x64 .bf16) (tab : Vec Ideal S1x128 .f32)
    (codes : Vec Ideal S4096x32768 .i8) (c8 : Vec Ideal S128x32768 .i8) (s2 : Vec Ideal S128x128x1 .f32)
    (b : Vec Ideal S64x32768 .bf16) (r : Fin 4096) (j : Fin 32768) : EReal :=
  (∑ k : Fin 8192, (show EReal from x (ix2 r k)) * wval tab codes c8 s2 k j) +
    ∑ k : Fin 64, (show EReal from xa (ix2 r k)) * (show EReal from b (ix2 k j))

/-- A gate value times its logistic, times the up value. -/
def gated (g u : EReal) : EReal := g * (show EReal from FloatOps.logistic (F := Ideal) (φ := .f32) g) * u

/-- The gated product at row `r`, column `f`. -/
def hval (x : Vec Ideal S4096x8192 .bf16) (xa : Vec Ideal S4096x64 .bf16) (tab : Vec Ideal S1x128 .f32)
    (codes : Vec Ideal S4096x32768 .i8) (c8 : Vec Ideal S128x32768 .i8) (s2 : Vec Ideal S128x128x1 .f32)
    (b : Vec Ideal S64x32768 .bf16) (r : Fin 4096) (f : Fin 16384) : EReal :=
  gated (pre x xa tab codes c8 s2 b r ⟨f.val, by omega⟩) (pre x xa tab codes c8 s2 b r ⟨16384 + f.val, by omega⟩)

/-- The gated product's block at an index, over any weight tile. -/
theorem pay39_at (x0 : Vec Ideal S512x8192 .bf16) (x1 : Vec Ideal S512x64 .bf16) (w : Vec Ideal S8192x1024 .bf16)
    (x9 x10 : Vec Ideal S64x512 .bf16) (r j : Fin 512) :
    k0_pay39 (F := Ideal) x0 x1 w x9 x10 (ix2 r j) =
      gated ((∑ k : Fin 8192, (show EReal from x0 (ix2 r k)) * (show EReal from w (ix2 k ⟨j.val, by omega⟩))) +
          ∑ k : Fin 64, (show EReal from x1 (ix2 r k)) * (show EReal from x9 (ix2 k j)))
        ((∑ k : Fin 8192, (show EReal from x0 (ix2 r k)) * (show EReal from w (ix2 k ⟨512 + j.val, by omega⟩))) +
          ∑ k : Fin 64, (show EReal from x1 (ix2 r k)) * (show EReal from x10 (ix2 k j))) := by
  pointwise [k0_pay39, gated]

/-- The low-rank projection's part at an index. -/
theorem pay40_at (x0 : Vec Ideal S512x8192 .bf16) (x1 : Vec Ideal S512x64 .bf16) (w : Vec Ideal S8192x1024 .bf16)
    (x9 x10 : Vec Ideal S64x512 .bf16) (x11 : Vec Ideal S512x64 .bf16) (r : Fin 512) (j : Fin 64) :
    k0_pay40 (F := Ideal) x0 x1 w x9 x10 x11 (ix2 r j) =
      ∑ f : Fin 512, (show EReal from k0_pay39 (F := Ideal) x0 x1 w x9 x10 (ix2 r f)) * (show EReal from x11 (ix2 f j)) := by
  pointwise [k0_pay40]

/-- Where each window's block sits at a point. -/
theorem index_eq : ∀ t : Fin cfg0.N, win0_0.index t = ![t.val % 8, 0] ∧ win0_1.index t = ![t.val % 8, 0] ∧ win0_2.index t = ![0, 0]
    ∧ win0_3.index t = ![0, t.val / 8] ∧ win0_4.index t = ![0, t.val / 8 + 32] ∧ win0_5.index t = ![0, t.val / 8]
    ∧ win0_6.index t = ![0, t.val / 8 + 32] ∧ win0_7.index t = ![t.val / 8, 0, 0] ∧ win0_8.index t = ![t.val / 8 + 32, 0, 0]
    ∧ win0_9.index t = ![0, t.val / 8] ∧ win0_10.index t = ![0, t.val / 8 + 32] ∧ win0_11.index t = ![t.val / 8, 0]
    ∧ win0_12.index t = ![t.val % 8, t.val / 8] ∧ win0_13.index t = ![0, 0] :=
  (by decide +kernel : ∀ t : Fin grid0.N, _)

section Blocks

variable (t : Fin cfg0.N)

/-- The rows of the activation block. -/
theorem blk0 (X : Vec Ideal S4096x8192 .bf16) (r : Fin 512) (R : Fin 4096) (j : Fin 8192) (hR : R.val = (t.val % 8) * 512 + r.val) :
    ((cfg0.win 0).blk t).view.read (Elt Ideal) X (ix2 r j) = X (ix2 R j) :=
  congrArg X ((eq_ix2 _).trans ((ix2_inj ..).2
    ⟨Fin.ext ((Pipeline.Window.rect_emb_val (win0_0) t (ix2 r j) 0).trans (by rw [(index_eq t).1]; show (t.val % 8) * 512 + r.val = R.val; omega)),
     Fin.ext ((Pipeline.Window.rect_emb_val (win0_0) t (ix2 r j) 1).trans (by rw [(index_eq t).1]; show (0) * 8192 + j.val = j.val; omega))⟩))

/-- The rows of the projected activations' block. -/
theorem blk1 (X : Vec Ideal S4096x64 .bf16) (r : Fin 512) (R : Fin 4096) (j : Fin 64) (hR : R.val = (t.val % 8) * 512 + r.val) :
    ((cfg0.win 1).blk t).view.read (Elt Ideal) X (ix2 r j) = X (ix2 R j) :=
  congrArg X ((eq_ix2 _).trans ((ix2_inj ..).2
    ⟨Fin.ext ((Pipeline.Window.rect_emb_val (win0_1) t (ix2 r j) 0).trans (by rw [(index_eq t).2.1]; show (t.val % 8) * 512 + r.val = R.val; omega)),
     Fin.ext ((Pipeline.Window.rect_emb_val (win0_1) t (ix2 r j) 1).trans (by rw [(index_eq t).2.1]; show (0) * 64 + j.val = j.val; omega))⟩))

/-- The table's block is the table. -/
theorem blk2 (X : Vec Ideal S1x128 .f32) (j : Fin 128)  :
    ((cfg0.win 2).blk t).view.read (Elt Ideal) X (ix2 0 j) = X (ix2 0 j) :=
  congrArg X ((eq_ix2 _).trans ((ix2_inj ..).2
    ⟨Fin.ext ((Pipeline.Window.rect_emb_val (win0_2) t (ix2 0 j) 0).trans (by rw [(index_eq t).2.2.1]; show (0) * 1 + 0 = 0; omega)),
     Fin.ext ((Pipeline.Window.rect_emb_val (win0_2) t (ix2 0 j) 1).trans (by rw [(index_eq t).2.2.1]; show (0) * 128 + j.val = j.val; omega))⟩))

/-- The gate columns of the codes. -/
theorem blk3 (X : Vec Ideal S4096x32768 .i8) (r : Fin 4096) (j : Fin 512) (J : Fin 32768) (hJ : J.val = (t.val / 8) * 512 + j.val) :
    ((cfg0.win 3).blk t).view.read (Elt Ideal) X (ix2 r j) = X (ix2 r J) :=
  congrArg X ((eq_ix2 _).trans ((ix2_inj ..).2
    ⟨Fin.ext ((Pipeline.Window.rect_emb_val (win0_3) t (ix2 r j) 0).trans (by rw [(index_eq t).2.2.2.1]; show (0) * 4096 + r.val = r.val; omega)),
     Fin.ext ((Pipeline.Window.rect_emb_val (win0_3) t (ix2 r j) 1).trans (by rw [(index_eq t).2.2.2.1]; show (t.val / 8) * 512 + j.val = J.val; omega))⟩))

/-- The up columns of the codes. -/
theorem blk4 (X : Vec Ideal S4096x32768 .i8) (r : Fin 4096) (j : Fin 512) (J : Fin 32768) (hJ : J.val = (t.val / 8 + 32) * 512 + j.val) :
    ((cfg0.win 4).blk t).view.read (Elt Ideal) X (ix2 r j) = X (ix2 r J) :=
  congrArg X ((eq_ix2 _).trans ((ix2_inj ..).2
    ⟨Fin.ext ((Pipeline.Window.rect_emb_val (win0_4) t (ix2 r j) 0).trans (by rw [(index_eq t).2.2.2.2.1]; show (0) * 4096 + r.val = r.val; omega)),
     Fin.ext ((Pipeline.Window.rect_emb_val (win0_4) t (ix2 r j) 1).trans (by rw [(index_eq t).2.2.2.2.1]; show (t.val / 8 + 32) * 512 + j.val = J.val; omega))⟩))

/-- The gate columns of the scale codes. -/
theorem blk5 (X : Vec Ideal S128x32768 .i8) (r : Fin 128) (j : Fin 512) (J : Fin 32768) (hJ : J.val = (t.val / 8) * 512 + j.val) :
    ((cfg0.win 5).blk t).view.read (Elt Ideal) X (ix2 r j) = X (ix2 r J) :=
  congrArg X ((eq_ix2 _).trans ((ix2_inj ..).2
    ⟨Fin.ext ((Pipeline.Window.rect_emb_val (win0_5) t (ix2 r j) 0).trans (by rw [(index_eq t).2.2.2.2.2.1]; show (0) * 128 + r.val = r.val; omega)),
     Fin.ext ((Pipeline.Window.rect_emb_val (win0_5) t (ix2 r j) 1).trans (by rw [(index_eq t).2.2.2.2.2.1]; show (t.val / 8) * 512 + j.val = J.val; omega))⟩))

/-- The up columns of the scale codes. -/
theorem blk6 (X : Vec Ideal S128x32768 .i8) (r : Fin 128) (j : Fin 512) (J : Fin 32768) (hJ : J.val = (t.val / 8 + 32) * 512 + j.val) :
    ((cfg0.win 6).blk t).view.read (Elt Ideal) X (ix2 r j) = X (ix2 r J) :=
  congrArg X ((eq_ix2 _).trans ((ix2_inj ..).2
    ⟨Fin.ext ((Pipeline.Window.rect_emb_val (win0_6) t (ix2 r j) 0).trans (by rw [(index_eq t).2.2.2.2.2.2.1]; show (0) * 128 + r.val = r.val; omega)),
     Fin.ext ((Pipeline.Window.rect_emb_val (win0_6) t (ix2 r j) 1).trans (by rw [(index_eq t).2.2.2.2.2.2.1]; show (t.val / 8 + 32) * 512 + j.val = J.val; omega))⟩))

/-- The gate groups of the scales. -/
theorem blk7 (X : Vec Ideal S128x128x1 .f32) (r : Fin 2) (R : Fin 128) (j : Fin 128) (hR : R.val = (t.val / 8) * 2 + r.val) :
    ((cfg0.win 7).blk t).view.read (Elt Ideal) X (ix3 r j 0) = X (ix3 R j 0) :=
  congrArg X ((eq_ix3 _).trans ((ix3_inj ..).2
    ⟨Fin.ext ((Pipeline.Window.rect_emb_val (win0_7) t (ix3 r j 0) 0).trans (by rw [(index_eq t).2.2.2.2.2.2.2.1]; show (t.val / 8) * 2 + r.val = R.val; omega)),
     Fin.ext ((Pipeline.Window.rect_emb_val (win0_7) t (ix3 r j 0) 1).trans (by rw [(index_eq t).2.2.2.2.2.2.2.1]; show (0) * 128 + j.val = j.val; omega)),
     Fin.ext ((Pipeline.Window.rect_emb_val (win0_7) t (ix3 r j 0) 2).trans (by rw [(index_eq t).2.2.2.2.2.2.2.1]; show (0) * 1 + 0 = 0; omega))⟩))

/-- The up groups of the scales. -/
theorem blk8 (X : Vec Ideal S128x128x1 .f32) (r : Fin 2) (R : Fin 128) (j : Fin 128) (hR : R.val = (t.val / 8 + 32) * 2 + r.val) :
    ((cfg0.win 8).blk t).view.read (Elt Ideal) X (ix3 r j 0) = X (ix3 R j 0) :=
  congrArg X ((eq_ix3 _).trans ((ix3_inj ..).2
    ⟨Fin.ext ((Pipeline.Window.rect_emb_val (win0_8) t (ix3 r j 0) 0).trans (by rw [(index_eq t).2.2.2.2.2.2.2.2.1]; show (t.val / 8 + 32) * 2 + r.val = R.val; omega)),
     Fin.ext ((Pipeline.Window.rect_emb_val (win0_8) t (ix3 r j 0) 1).trans (by rw [(index_eq t).2.2.2.2.2.2.2.2.1]; show (0) * 128 + j.val = j.val; omega)),
     Fin.ext ((Pipeline.Window.rect_emb_val (win0_8) t (ix3 r j 0) 2).trans (by rw [(index_eq t).2.2.2.2.2.2.2.2.1]; show (0) * 1 + 0 = 0; omega))⟩))

/-- The gate columns of the adapter. -/
theorem blk9 (X : Vec Ideal S64x32768 .bf16) (r : Fin 64) (j : Fin 512) (J : Fin 32768) (hJ : J.val = (t.val / 8) * 512 + j.val) :
    ((cfg0.win 9).blk t).view.read (Elt Ideal) X (ix2 r j) = X (ix2 r J) :=
  congrArg X ((eq_ix2 _).trans ((ix2_inj ..).2
    ⟨Fin.ext ((Pipeline.Window.rect_emb_val (win0_9) t (ix2 r j) 0).trans (by rw [(index_eq t).2.2.2.2.2.2.2.2.2.1]; show (0) * 64 + r.val = r.val; omega)),
     Fin.ext ((Pipeline.Window.rect_emb_val (win0_9) t (ix2 r j) 1).trans (by rw [(index_eq t).2.2.2.2.2.2.2.2.2.1]; show (t.val / 8) * 512 + j.val = J.val; omega))⟩))

/-- The up columns of the adapter. -/
theorem blk10 (X : Vec Ideal S64x32768 .bf16) (r : Fin 64) (j : Fin 512) (J : Fin 32768) (hJ : J.val = (t.val / 8 + 32) * 512 + j.val) :
    ((cfg0.win 10).blk t).view.read (Elt Ideal) X (ix2 r j) = X (ix2 r J) :=
  congrArg X ((eq_ix2 _).trans ((ix2_inj ..).2
    ⟨Fin.ext ((Pipeline.Window.rect_emb_val (win0_10) t (ix2 r j) 0).trans (by rw [(index_eq t).2.2.2.2.2.2.2.2.2.2.1]; show (0) * 64 + r.val = r.val; omega)),
     Fin.ext ((Pipeline.Window.rect_emb_val (win0_10) t (ix2 r j) 1).trans (by rw [(index_eq t).2.2.2.2.2.2.2.2.2.2.1]; show (t.val / 8 + 32) * 512 + j.val = J.val; omega))⟩))

/-- The rows of the down adapter's first factor. -/
theorem blk11 (X : Vec Ideal S16384x64 .bf16) (r : Fin 512) (R : Fin 16384) (j : Fin 64) (hR : R.val = (t.val / 8) * 512 + r.val) :
    ((cfg0.win 11).blk t).view.read (Elt Ideal) X (ix2 r j) = X (ix2 R j) :=
  congrArg X ((eq_ix2 _).trans ((ix2_inj ..).2
    ⟨Fin.ext ((Pipeline.Window.rect_emb_val (win0_11) t (ix2 r j) 0).trans (by rw [(index_eq t).2.2.2.2.2.2.2.2.2.2.2.1]; show (t.val / 8) * 512 + r.val = R.val; omega)),
     Fin.ext ((Pipeline.Window.rect_emb_val (win0_11) t (ix2 r j) 1).trans (by rw [(index_eq t).2.2.2.2.2.2.2.2.2.2.2.1]; show (0) * 64 + j.val = j.val; omega))⟩))

/-- Where the gated product's block sits. -/
theorem emb12 (r : Fin 512) (R : Fin 4096) (j : Fin 512) (J : Fin 16384) (hR : R.val = (t.val % 8) * 512 + r.val) (hJ : J.val = (t.val / 8) * 512 + j.val) :
    ((cfg0.win 12).blk t).view.emb (ix2 r j) = ix2 R J :=
  (eq_ix2 _).trans ((ix2_inj ..).2
    ⟨Fin.ext ((Pipeline.Window.rect_emb_val (win0_12) t (ix2 r j) 0).trans (by rw [(index_eq t).2.2.2.2.2.2.2.2.2.2.2.2.1]; show (t.val % 8) * 512 + r.val = R.val; omega)),
     Fin.ext ((Pipeline.Window.rect_emb_val (win0_12) t (ix2 r j) 1).trans (by rw [(index_eq t).2.2.2.2.2.2.2.2.2.2.2.2.1]; show (t.val / 8) * 512 + j.val = J.val; omega))⟩)

/-- The projection's block is its array. -/
theorem emb13 (r : Fin 4096) (j : Fin 64)  :
    ((cfg0.win 13).blk t).view.emb (ix2 r j) = ix2 r j :=
  (eq_ix2 _).trans ((ix2_inj ..).2
    ⟨Fin.ext ((Pipeline.Window.rect_emb_val (win0_13) t (ix2 r j) 0).trans (by rw [(index_eq t).2.2.2.2.2.2.2.2.2.2.2.2.2]; show (0) * 4096 + r.val = r.val; omega)),
     Fin.ext ((Pipeline.Window.rect_emb_val (win0_13) t (ix2 r j) 1).trans (by rw [(index_eq t).2.2.2.2.2.2.2.2.2.2.2.2.2]; show (0) * 64 + j.val = j.val; omega))⟩)

end Blocks

theorem div_lt (t : Fin cfg0.N) : t.val / 8 < 32 := by
  have : t.val < 256 := Nat.lt_of_lt_of_eq t.isLt N_0
  omega

section Formulas

variable (x : Vec Ideal S4096x8192 .bf16) (xa : Vec Ideal S4096x64 .bf16) (tab : Vec Ideal S1x128 .f32)
  (codes : Vec Ideal S4096x32768 .i8) (c8 : Vec Ideal S128x32768 .i8) (s2 : Vec Ideal S128x128x1 .f32)
  (b : Vec Ideal S64x32768 .bf16) (ad : Vec Ideal S16384x64 .bf16)

/-- The weight tile of a point's column block, from the blocks that the point reads. -/
def wtile (t : Fin cfg0.N) : Vec Ideal S8192x1024 .bf16 :=
  wfill (((cfg0.win 2).blk t).view.read (Elt Ideal) tab) (((cfg0.win 3).blk t).view.read (Elt Ideal) codes)
    (((cfg0.win 4).blk t).view.read (Elt Ideal) codes)
    (amfill (((cfg0.win 5).blk t).view.read (Elt Ideal) c8) (((cfg0.win 6).blk t).view.read (Elt Ideal) c8)
      (((cfg0.win 7).blk t).view.read (Elt Ideal) s2) (((cfg0.win 8).blk t).view.read (Elt Ideal) s2))

/-- Its gate half is the weight's own formula. -/
theorem wtile_gate (t : Fin cfg0.N) (r : Fin 8192) (j : Fin 512) (J : Fin 32768) (h : J.val = t.val / 8 * 512 + j.val) :
    wtile tab codes c8 s2 t (ix2 r ⟨j.val, by omega⟩) = wval tab codes c8 s2 r J := by
  have hq := div_lt t
  refine (wfill_gate _ _ _ _ _ r.val j (r.val % 2) r.isLt rfl rfl rfl).trans ?_
  refine congrArg₂ (fun a b : EReal => a * b) ?_ ?_
  · refine (blk2 t tab _).trans ?_
    refine congrArg (fun b : BitVec 8 => (tab (ix2 0 ((nib (r.val % 2) b).castLE (by norm_num))) : EReal)) ?_
    exact blk3 t codes _ j J h
  · refine (amfill_gate _ _ _ _ _ ⟨r.val / 64, by omega⟩ j ⟨j.val / 256, by omega⟩ rfl rfl rfl).trans ?_
    refine congrArg₂ (fun (a : BitVec 8) (b : EReal) => (show EReal from FloatOps.sitofp (F := Ideal) .f32 a) * b) ?_ ?_
    · exact blk5 t c8 _ j J h
    · exact blk7 t s2 _ _ _ (by show J.val / 256 = (t.val / 8) * 2 + j.val / 256; omega)

/-- Its up half is the weight's own formula. -/
theorem wtile_up (t : Fin cfg0.N) (r : Fin 8192) (j : Fin 512) (J : Fin 32768) (h : J.val = (t.val / 8 + 32) * 512 + j.val) :
    wtile tab codes c8 s2 t (ix2 r ⟨512 + j.val, by omega⟩) = wval tab codes c8 s2 r J := by
  have hq := div_lt t
  refine (wfill_up _ _ _ _ _ r.val j (r.val % 2) r.isLt rfl rfl rfl).trans ?_
  refine congrArg₂ (fun a b : EReal => a * b) ?_ ?_
  · refine (blk2 t tab _).trans ?_
    refine congrArg (fun b : BitVec 8 => (tab (ix2 0 ((nib (r.val % 2) b).castLE (by norm_num))) : EReal)) ?_
    exact blk4 t codes _ j J h
  · refine (amfill_up _ _ _ _ _ ⟨r.val / 64, by omega⟩ j ⟨j.val / 256, by omega⟩ rfl rfl rfl).trans ?_
    refine congrArg₂ (fun (a : BitVec 8) (b : EReal) => (show EReal from FloatOps.sitofp (F := Ideal) .f32 a) * b) ?_ ?_
    · exact blk6 t c8 _ j J h
    · exact blk8 t s2 _ _ _ (by show J.val / 256 = (t.val / 8 + 32) * 2 + j.val / 256; omega)

/-- The tile is the same at every point of a column block. -/
theorem wtile_congr (t t' : Fin cfg0.N) (h : t.val / 8 = t'.val / 8) : wtile tab codes c8 s2 t = wtile tab codes c8 s2 t' := by
  have hq := div_lt t
  funext y
  obtain ⟨r, j, rfl⟩ : ∃ (r : Fin 8192) (j : Fin 1024), y = ix2 r j := ⟨y 0, y 1, eq_ix2 y⟩
  by_cases hj : j.val < 512
  · exact (wtile_gate tab codes c8 s2 t r ⟨j.val, hj⟩ ⟨t.val / 8 * 512 + j.val, by omega⟩ rfl).trans
      (wtile_gate tab codes c8 s2 t' r ⟨j.val, hj⟩ ⟨t.val / 8 * 512 + j.val, by omega⟩ (by show t.val / 8 * 512 + j.val = _; rw [h])).symm
  · obtain ⟨i, rfl⟩ : ∃ i : Fin 512, j = ⟨512 + i.val, Nat.add_lt_add_left i.isLt 512⟩ := ⟨⟨j.val - 512, by omega⟩, Fin.ext (by show j.val = 512 + (j.val - 512); omega)⟩
    clear hj
    exact (wtile_up tab codes c8 s2 t r i ⟨(t.val / 8 + 32) * 512 + i.val, by omega⟩ rfl).trans
      (wtile_up tab codes c8 s2 t' r i ⟨(t.val / 8 + 32) * 512 + i.val, by omega⟩ (by show (t.val / 8 + 32) * 512 + i.val = _; rw [h])).symm

/-- The gated product's block of a point. -/
def hblk (t : Fin cfg0.N) : Vec Ideal S512x512 .bf16 :=
  k0_pay39 (F := Ideal) (((cfg0.win 0).blk t).view.read (Elt Ideal) x) (((cfg0.win 1).blk t).view.read (Elt Ideal) xa)
    (wtile tab codes c8 s2 t) (((cfg0.win 9).blk t).view.read (Elt Ideal) b) (((cfg0.win 10).blk t).view.read (Elt Ideal) b)

/-- It is the gated product's own formula. -/
theorem hblk_at (t : Fin cfg0.N) (r j : Fin 512) (R : Fin 4096) (J : Fin 16384)
    (hR : R.val = (t.val % 8) * 512 + r.val) (hJ : J.val = (t.val / 8) * 512 + j.val) :
    hblk x xa tab codes c8 s2 b t (ix2 r j) = hval x xa tab codes c8 s2 b R J := by
  have hq := div_lt t
  refine (pay39_at _ _ _ _ _ r j).trans ?_
  unfold hval pre
  refine congrArg₂ gated
    (congrArg₂ (fun a b : EReal => a + b) (Finset.sum_congr rfl fun k _ => congrArg₂ (fun a b : EReal => a * b) (blk0 t x r R k hR) ?_)
      (Finset.sum_congr rfl fun k _ => congrArg₂ (fun a b : EReal => a * b) (blk1 t xa r R k hR) ?_))
    (congrArg₂ (fun a b : EReal => a + b) (Finset.sum_congr rfl fun k _ => congrArg₂ (fun a b : EReal => a * b) (blk0 t x r R k hR) ?_)
      (Finset.sum_congr rfl fun k _ => congrArg₂ (fun a b : EReal => a * b) (blk1 t xa r R k hR) ?_))
  · exact wtile_gate tab codes c8 s2 t k j ⟨J.val, by omega⟩ hJ
  · exact blk9 t b k j ⟨J.val, by omega⟩ hJ
  · exact wtile_up tab codes c8 s2 t k j ⟨16384 + J.val, by omega⟩ (by show 16384 + J.val = _; omega)
  · exact blk10 t b k j ⟨16384 + J.val, by omega⟩ (by show 16384 + J.val = _; omega)

/-- The low-rank projection's part that a point adds. -/
def part (t : Fin cfg0.N) : Vec Ideal S512x64 .f32 :=
  k0_pay40 (F := Ideal) (((cfg0.win 0).blk t).view.read (Elt Ideal) x) (((cfg0.win 1).blk t).view.read (Elt Ideal) xa)
    (wtile tab codes c8 s2 t) (((cfg0.win 9).blk t).view.read (Elt Ideal) b) (((cfg0.win 10).blk t).view.read (Elt Ideal) b)
    (((cfg0.win 11).blk t).view.read (Elt Ideal) ad)

/-- It is the projection's sum over the point's columns. -/
theorem part_at (t : Fin cfg0.N) (r : Fin 512) (j : Fin 64) (R : Fin 4096) (hR : R.val = (t.val % 8) * 512 + r.val) :
    part x xa tab codes c8 s2 b ad t (ix2 r j) =
      ∑ f : Fin 512, hval x xa tab codes c8 s2 b R ⟨(t.val / 8) * 512 + f.val, by have := div_lt t; omega⟩ *
        (show EReal from ad (ix2 ⟨(t.val / 8) * 512 + f.val, by have := div_lt t; omega⟩ j)) := by
  have hq := div_lt t
  refine (pay40_at _ _ _ _ _ _ r j).trans ?_
  exact Finset.sum_congr rfl fun f _ => congrArg₂ (fun a b : EReal => a * b)
    (hblk_at x xa tab codes c8 s2 b t r f R ⟨(t.val / 8) * 512 + f.val, by omega⟩ hR rfl) (blk11 t ad f ⟨(t.val / 8) * 512 + f.val, by omega⟩ j rfl)

end Formulas

end Cert.GateUpIdeal.Tile

end
-- ==== Proof.GateUpSum.lean ====
/- The row accumulator of the fused gate and up call: how far each row's sum has come at each grid point. -/
module

public import proofs.«01_k».proof.Proof.GateUpBlocks

@[expose] public section

set_option maxRecDepth 16384

noncomputable section

open Idealize.ShloMosaic Idealize.ShloMosaic.TcCoe Idealize.ShloMosaic.Tactic Idealize.SL.Sem
open Idealize.ShloMosaic.VecWindow (window put)

namespace Cert.GateUpIdeal.Tile

open Cert.GateUpIdeal Cert.GateUpIdeal.Gen

/-! ## The grid's coordinates and the body's conditions -/

theorem coord0 (t : Fin cfg0.N) : (grid0.coords t 0).val = t.val / 8 := by
  have ht : t.val < 256 := Nat.lt_of_lt_of_eq t.isLt N_0
  have e : (grid0.coords t 0).val = t.val / 8 % 32 := Pipeline.Grid.coords_val t 0 (by decide) rfl
  omega

theorem coord1 (t : Fin cfg0.N) : (grid0.coords t 1).val = t.val % 8 := by
  have e : (grid0.coords t 1).val = t.val / 1 % 8 := Pipeline.Grid.coords_val t 1 (by decide) rfl
  omega

/-- The weights are dequantised at the first point of a column block. -/
theorem cond1_iff (t : Fin cfg0.N) : k0_cond1 (grid0.coords t) = 1#1 ↔ t.val % 8 = 0 := by
  have ht : t.val < 256 := Nat.lt_of_lt_of_eq t.isLt N_0
  simp only [k0_cond1, coord0, coord1]
  word_cmp

/-- The rows start in the first column block. -/
theorem cond2_iff (t : Fin cfg0.N) : k0_cond2 (grid0.coords t) = 1#1 ↔ t.val / 8 = 0 := by
  have ht : t.val < 256 := Nat.lt_of_lt_of_eq t.isLt N_0
  simp only [k0_cond2, coord0, coord1]
  word_cmp

/-- They grow in every later one. -/
theorem cond3_iff (t : Fin cfg0.N) : k0_cond3 (grid0.coords t) = 1#1 ↔ ¬ t.val / 8 = 0 := by
  have ht : t.val < 256 := Nat.lt_of_lt_of_eq t.isLt N_0
  simp only [k0_cond3, coord0, coord1]
  word_cmp

/-- They are stored in the last. -/
theorem cond4_iff (t : Fin cfg0.N) : k0_cond4 (grid0.coords t) = 1#1 ↔ t.val / 8 = 31 := by
  have ht : t.val < 256 := Nat.lt_of_lt_of_eq t.isLt N_0
  simp only [k0_cond4, coord0, coord1]
  word_cmp

/-- The first row of a point's row block. -/
theorem rowOff_eq (t : Fin cfg0.N) : rowOff (grid0.coords t) = ![512 * (t.val % 8), 0] :=
  (k0_off7_eq _).trans (by rw [coord1])

/-- The row block lies in the accumulator. -/
theorem rowOff_le (t : Fin cfg0.N) : ∀ a, rowOff (grid0.coords t) a + S512x64.size a ≤ S4096x64.size a := by
  rw [rowOff_eq]
  intro a
  fin_cases a
  · show 512 * (t.val % 8) + 512 ≤ 4096
    omega
  · show 0 + 64 ≤ 64
    omega

/-! ## Rows of a block -/

/-- The row of its block. -/
abbrev loc (r : Fin 4096) : Fin 512 := ⟨r.val % 512, Nat.mod_lt _ (by norm_num)⟩

/-- The row block of a point, put over the accumulator: inside, the payload's row. -/
theorem put_in {α : Type} (s : S4096x64.Idx → α) (w : S512x64.Idx → α) (t : Fin cfg0.N) (r : Fin 4096) (j : Fin 64) (h : r.val / 512 = t.val % 8) :
    put s (rowOff (grid0.coords t)) S512x64.size w (ix2 r j) = w (ix2 (loc r) j) := by
  unfold put
  rw [rowOff_eq, dif_pos (fun a => by
    fin_cases a
    · show 512 * (t.val % 8) ≤ r.val ∧ r.val < 512 * (t.val % 8) + 512
      omega
    · show 0 ≤ j.val ∧ j.val < 0 + 64
      omega)]
  refine congrArg w ((@eq_ix2 512 64 _).trans ((ix2_inj ..).2 ⟨Fin.ext ?_, Fin.ext ?_⟩))
  · show r.val - 512 * (t.val % 8) = r.val % 512
    omega
  · show j.val - 0 = j.val
    omega

/-- Outside, what was there. -/
theorem put_out {α : Type} (s : S4096x64.Idx → α) (w : S512x64.Idx → α) (t : Fin cfg0.N) (r : Fin 4096) (j : Fin 64) (h : ¬ r.val / 512 = t.val % 8) :
    put s (rowOff (grid0.coords t)) S512x64.size w (ix2 r j) = s (ix2 r j) := by
  unfold put
  rw [rowOff_eq, dif_neg (fun hh => by
    have h0 : 512 * (t.val % 8) ≤ r.val ∧ r.val < 512 * (t.val % 8) + 512 := hh 0
    omega)]

/-- The row block of a point, read off the accumulator. -/
theorem window_in {α : Type} (s : S4096x64.Idx → α) (t : Fin cfg0.N) (r : Fin 4096) (j : Fin 64) (h : r.val / 512 = t.val % 8)
    (ho : ∀ a, rowOff (grid0.coords t) a + S512x64.size a ≤ S4096x64.size a) :
    window s (rowOff (grid0.coords t)) S512x64.size ho (ix2 (loc r) j) = s (ix2 r j) := by
  unfold window
  refine congrArg s ((eq_ix2 _).trans ((ix2_inj ..).2 ⟨Fin.ext ?_, Fin.ext ?_⟩))
  · have e : rowOff (grid0.coords t) 0 = 512 * (t.val % 8) := congrFun (rowOff_eq t) 0
    show rowOff (grid0.coords t) 0 + 1 * (r.val % 512) = r.val
    omega
  · have e : rowOff (grid0.coords t) 1 = 0 := congrFun (rowOff_eq t) 1
    show rowOff (grid0.coords t) 1 + 1 * j.val = j.val
    omega

/-! ## The sums -/

/-- The grid point of a number below the grid's size. -/
def pt (x : ℕ) : Fin cfg0.N := ⟨x % 256, by have : cfg0.N = 256 := N_0; omega⟩

theorem pt_val (t : Fin cfg0.N) : pt t.val = t :=
  Fin.ext (Nat.mod_eq_of_lt (Nat.lt_of_lt_of_eq t.isLt N_0))

/-- How many column blocks a row has been summed over before point `k`. -/
def cnt (k : ℕ) (r : Fin 4096) : ℕ := (k + 7 - r.val / 512) / 8

/-- A row's sum over the first `n` column blocks of the parts `P` that the points add. -/
def acc (P : Fin cfg0.N → Vec Ideal S512x64 .f32) (n : ℕ) (r : Fin 4096) (j : Fin 64) : EReal :=
  ∑ q ∈ Finset.range n, (show EReal from P (pt (8 * q + r.val / 512)) (ix2 (loc r) j))

/-- The factor of the stored projection. -/
def quarter : EReal := (Scalar.ofBits .bf16 0x3E80#16 : Ideal .bf16)

/-- The accumulator before point `k`. -/
def AccOk (P : Fin cfg0.N → Vec Ideal S512x64 .f32) (k : ℕ) (S : Vec Ideal S4096x64 .f32) : Prop :=
  ∀ (r : Fin 4096) (j : Fin 64), 0 < cnt k r → S (ix2 r j) = acc P (cnt k r) r j

/-- The projection's buffer before point `k`: the rows that every column block has been added to are stored. -/
def Done (P : Fin cfg0.N → Vec Ideal S512x64 .f32) (k : ℕ) (X : Vec Ideal S4096x64 .bf16) : Prop :=
  ∀ (r : Fin 4096) (j : Fin 64), cnt k r = 32 → X (ix2 r j) = acc P 32 r j * quarter

theorem pay1_at (v : Vec Ideal S512x64 .f32) (r : Fin 512) (j : Fin 64) :
    k0_pay1 (F := Ideal) v (ix2 r j) = (show EReal from v (ix2 r j)) * quarter := by
  pointwise [k0_pay1, quarter]

theorem pay41_at (x0 : Vec Ideal S512x8192 .bf16) (x1 : Vec Ideal S512x64 .bf16) (w : Vec Ideal S8192x1024 .bf16)
    (x9 x10 : Vec Ideal S64x512 .bf16) (x11 : Vec Ideal S512x64 .bf16) (r : Fin 512) (j : Fin 64) :
    k0_pay41 (F := Ideal) x0 x1 w x9 x10 x11 (ix2 r j) = k0_pay40 (F := Ideal) x0 x1 w x9 x10 x11 (ix2 r j) := by
  pointwise [k0_pay41]

theorem pay42_at (x0 : Vec Ideal S512x8192 .bf16) (x1 : Vec Ideal S512x64 .bf16) (w : Vec Ideal S8192x1024 .bf16)
    (x9 x10 : Vec Ideal S64x512 .bf16) (x11 : Vec Ideal S512x64 .bf16) (v : Vec Ideal S512x64 .f32) (r : Fin 512) (j : Fin 64) :
    k0_pay42 (F := Ideal) x0 x1 w x9 x10 x11 v (ix2 r j) =
      (show EReal from v (ix2 r j)) + (show EReal from k0_pay40 (F := Ideal) x0 x1 w x9 x10 x11 (ix2 r j)) := by
  pointwise [k0_pay42]

section Step

variable (P : Fin cfg0.N → Vec Ideal S512x64 .f32) (t : Fin cfg0.N)
  (x0 : Vec Ideal S512x8192 .bf16) (x1 : Vec Ideal S512x64 .bf16) (x9 x10 : Vec Ideal S64x512 .bf16) (x11 : Vec Ideal S512x64 .bf16)
  (y15 : Vec Ideal S4096x64 .bf16) (s18 : Vec Ideal S4096x64 .f32)
  (X14 : Vec Ideal S512x512 .bf16) (X15 : Vec Ideal S4096x64 .bf16) (X16 : Vec Ideal S8192x1024 .bf16) (X18 : Vec Ideal S4096x64 .f32)
  (hP : P t = k0_pay40 (F := Ideal) x0 x1 X16 x9 x10 x11)
  (hL : Left (grid0.coords t) (rowOff_le t) x0 x1 x9 x10 x11 y15 s18 X14 X15 X16 X18)

include hP hL

/-- A point adds its part to its rows. -/
theorem acc_step (hS : AccOk P t.val s18) : AccOk P (t.val + 1) X18 := by
  have ht : t.val < 256 := Nat.lt_of_lt_of_eq t.isLt N_0
  intro r j hpos
  have hr : r.val < 4096 := r.isLt
  obtain ⟨-, hfirst, hlater, -⟩ := hL
  by_cases hm : r.val / 512 = t.val % 8
  · have hc : cnt (t.val + 1) r = t.val / 8 + 1 := by unfold cnt; omega
    have hp : pt (8 * (t.val / 8) + r.val / 512) = t := by rw [hm, Nat.div_add_mod, pt_val]
    rw [hc]
    unfold acc
    rw [Finset.sum_range_succ, hp, hP]
    by_cases h2 : k0_cond2 (grid0.coords t) = 1#1
    · rw [hfirst h2, put_in _ _ t r j hm]
      refine (pay41_at ..).trans ?_
      rw [(cond2_iff t).1 h2, Finset.sum_range_zero]
      exact (zero_add _).symm
    · rw [hlater h2, put_in _ _ t r j hm]
      refine (pay42_at ..).trans ?_
      refine congrArg₂ (fun a b : EReal => a + b) ?_ rfl
      have hn : ¬ t.val / 8 = 0 := fun h => h2 ((cond2_iff t).2 h)
      have hk : cnt t.val r = t.val / 8 := by unfold cnt; omega
      refine (window_in s18 t r j hm _).trans ?_
      refine (hS r j (by omega)).trans ?_
      rw [hk]
      rfl
  · have hc : cnt (t.val + 1) r = cnt t.val r := by unfold cnt; omega
    rw [hc]
    rw [hc] at hpos
    have e : X18 (ix2 r j) = s18 (ix2 r j) := by
      by_cases h2 : k0_cond2 (grid0.coords t) = 1#1
      · rw [hfirst h2, put_out _ _ t r j hm]
      · rw [hlater h2, put_out _ _ t r j hm]
    exact e.trans (hS r j hpos)

/-- A point of the last column block stores its rows; no other has a row to store. -/
theorem done_step (hS : AccOk P t.val s18) (hY : Done P t.val y15) : Done P (t.val + 1) X15 := by
  have ht : t.val < 256 := Nat.lt_of_lt_of_eq t.isLt N_0
  have hA := acc_step P t x0 x1 x9 x10 x11 y15 s18 X14 X15 X16 X18 hP hL hS
  intro r j h32
  have hr : r.val < 4096 := r.isLt
  obtain ⟨-, -, -, hlast, hkeep⟩ := hL
  have hn : t.val / 8 = 31 := by unfold cnt at h32; omega
  rw [hlast ((cond4_iff t).2 hn)]
  by_cases hm : r.val / 512 = t.val % 8
  · rw [put_in _ _ t r j hm]
    refine (pay1_at ..).trans ?_
    refine congrArg (fun a : EReal => a * quarter) ?_
    refine (window_in X18 t r j hm _).trans ?_
    refine (hA r j (by omega)).trans ?_
    rw [h32]
  · rw [put_out _ _ t r j hm]
    exact hY r j (by unfold cnt at h32 ⊢; omega)

end Step

/-- No row's sum has started before the first point. -/
theorem acc_zero (P : Fin cfg0.N → Vec Ideal S512x64 .f32) (S : Vec Ideal S4096x64 .f32) : AccOk P 0 S := fun r j h => by
  have hr : r.val < 4096 := r.isLt
  unfold cnt at h
  omega

/-- No row is stored before it. -/
theorem done_zero (P : Fin cfg0.N → Vec Ideal S512x64 .f32) (X : Vec Ideal S4096x64 .bf16) : Done P 0 X := fun r j h => by
  have hr : r.val < 4096 := r.isLt
  unfold cnt at h
  omega

end Cert.GateUpIdeal.Tile

end
-- ==== Proof.GateUpFrame.lean ====
/- The fused gate/up kernel's frame at the compiled program: its arguments end unchanged and the machine is quiescent,
   its results left untold. -/
module

public import proofs.«01_k».proof.Proof.GateUpFrameKeep
public import proofs.«01_k».proof.Proof.GateUpFrameFill
public import proofs.«01_k».proof.Proof.GateUpSum
public import Idealize.ShloMosaic.Lib.Pipeline.ArrRel

@[expose] public section

set_option maxRecDepth 16384

noncomputable section

namespace Cert.GateUp.Gen

open Cert.GateUp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.VecWindow (window put)

variable {F : FTy → Type} [BitOps F]

local notation "𝕄" => MT nD τ sig Unit (Elt F) ℕ (UR sig nD τ) ℕ

variable (m : (ℓ : Loc nD τ sig) → Buf (Elt F) ℓ) (ρ : Dev nD → PrngReg) (c : Dev nD)

/-! ## The grid -/

theorem coord0 (t : Fin cfg0.N) : (grid0.coords t 0).val = t.val / 8 := by
  have ht : t.val < 256 := Nat.lt_of_lt_of_eq t.isLt N_0
  have e : (grid0.coords t 0).val = t.val / 8 % 32 := Pipeline.Grid.coords_val t 0 (by decide) rfl
  omega

theorem coord1 (t : Fin cfg0.N) : (grid0.coords t 1).val = t.val % 8 := by
  have e : (grid0.coords t 1).val = t.val / 1 % 8 := Pipeline.Grid.coords_val t 1 (by decide) rfl
  omega

/-- The weights are dequantised at the first point of a column block. -/
theorem cond1_iff (t : Fin cfg0.N) : k0_cond1 (grid0.coords t) = 1#1 ↔ t.val % 8 = 0 := by
  have ht : t.val < 256 := Nat.lt_of_lt_of_eq t.isLt N_0
  simp only [k0_cond1, coord0, coord1]
  word_cmp

/-- The rows start in the first column block. -/
theorem cond2_iff (t : Fin cfg0.N) : k0_cond2 (grid0.coords t) = 1#1 ↔ t.val / 8 = 0 := by
  have ht : t.val < 256 := Nat.lt_of_lt_of_eq t.isLt N_0
  simp only [k0_cond2, coord0, coord1]
  word_cmp

/-- They grow in every later one. -/
theorem cond3_iff (t : Fin cfg0.N) : k0_cond3 (grid0.coords t) = 1#1 ↔ ¬ t.val / 8 = 0 := by
  have ht : t.val < 256 := Nat.lt_of_lt_of_eq t.isLt N_0
  simp only [k0_cond3, coord0, coord1]
  word_cmp

/-- They are stored in the last. -/
theorem cond4_iff (t : Fin cfg0.N) : k0_cond4 (grid0.coords t) = 1#1 ↔ t.val / 8 = 31 := by
  have ht : t.val < 256 := Nat.lt_of_lt_of_eq t.isLt N_0
  simp only [k0_cond4, coord0, coord1]
  word_cmp

theorem grow_iff (t : Fin cfg0.N) : k0_cond3 (grid0.coords t) = 1#1 ↔ ¬ k0_cond2 (grid0.coords t) = 1#1 := by
  rw [cond3_iff, cond2_iff]

theorem last_not_first (t : Fin cfg0.N) (h : k0_cond4 (grid0.coords t) = 1#1) : ¬ k0_cond2 (grid0.coords t) = 1#1 := by
  rw [cond4_iff] at h; rw [cond2_iff]; omega

/-! ## The buffers -/

abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x64 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4096x64 .bf16 := win0_13.stage (cfg0.slots t 13)
abbrev hs0_13 (t : Fin cfg0.N) : (ms0_13 t).IsWhole := hstage0_13 ((cfg0.slots t 13).cast nbuf0_13)
abbrev scM0_0 : Memref sig .tc .vmem S8192x1024 .bf16 := Memref.whole cc0_scratch0
abbrev scM0_1 : Memref sig .tc .vmem S128x1024 .i32 := Memref.whole cc0_scratch1
abbrev scM0_2 : Memref sig .tc .vmem S4096x64 .f32 := Memref.whole cc0_scratch2

/-- What the launch hands the region, buffer by buffer. -/
theorem PhiA0_eq :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The proof data -/

/-- The pipeline's proof data: each input's buffer at its block, the outputs' forgotten. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fun _ => Classical.arbitrary _
    | ⟨13, _⟩ => fun _ => Classical.arbitrary _
  Φ _ := Pipeline.ΦA spec0 c
  q := Pipeline.shareOf spec0
  owed _ := 0

/-- The windows whose contents are forgotten: the outputs. -/
def marked : Fin cfg0.W → Bool
  | ⟨12, _⟩ => true
  | ⟨13, _⟩ => true
  | _ => false

theorem A_eq (w : Fin cfg0.W) : (dat m c).A w = V m c (Pipeline.arrRef spec0 w) := by
  dsimp only [dat]

/-- What the body is called with at point `t`, the windows one by one, -/
def bodyPre (t : Fin cfg0.N) : sProp 𝕄 :=
  iprop(Pipeline.ΦA spec0 c ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare ((dat m c).before 9 t d))
    ∗ (∃ d, owns (c : Thread nD τ) (ms0_10 t) fullShare ((dat m c).before 10 t d))
    ∗ (∃ d, owns (c : Thread nD τ) (ms0_11 t) fullShare ((dat m c).before 11 t d))
    ∗ (∃ d, owns (c : Thread nD τ) (ms0_12 t) fullShare d)
    ∗ (∃ d, owns (c : Thread nD τ) (ms0_13 t) fullShare d))

/-- and what it returns. -/
def bodyPost (t : Fin cfg0.N) : sProp 𝕄 :=
  iprop(Pipeline.ΦA spec0 c ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ owns (c : Thread nD τ) (ms0_9 t) fullShare ((dat m c).after 9 t)
    ∗ owns (c : Thread nD τ) (ms0_10 t) fullShare ((dat m c).after 10 t)
    ∗ owns (c : Thread nD τ) (ms0_11 t) fullShare ((dat m c).after 11 t)
    ∗ (∃ d, owns (c : Thread nD τ) (ms0_12 t) fullShare d)
    ∗ (∃ d, owns (c : Thread nD τ) (ms0_13 t) fullShare d))

set_option maxHeartbeats 6400000 in
/-- The body at any point keeps the proof data. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dat m c) (A_eq m c 0) (fun _ => by dsimp only [dat]) t,
    before0_1_of m (dat m c) (A_eq m c 1) (fun _ => by dsimp only [dat]) t,
    before0_2_of m (dat m c) (A_eq m c 2) (fun _ => by dsimp only [dat]) t,
    before0_3_of m (dat m c) (A_eq m c 3) (fun _ => by dsimp only [dat]) t,
    before0_4_of m (dat m c) (A_eq m c 4) (fun _ => by dsimp only [dat]) t,
    before0_5_of m (dat m c) (A_eq m c 5) (fun _ => by dsimp only [dat]) t,
    before0_6_of m (dat m c) (A_eq m c 6) (fun _ => by dsimp only [dat]) t,
    before0_7_of m (dat m c) (A_eq m c 7) (fun _ => by dsimp only [dat]) t,
    before0_8_of m (dat m c) (A_eq m c 8) (fun _ => by dsimp only [dat]) t,
    before0_9_of m (dat m c) (A_eq m c 9) (fun _ => by dsimp only [dat]) t,
    before0_10_of m (dat m c) (A_eq m c 10) (fun _ => by dsimp only [dat]) t,
    before0_11_of m (dat m c) (A_eq m c 11) (fun _ => by dsimp only [dat]) t]
  rw [show (dat m c).owesAt () t.succ = (dat m c).owesAt () t.castSucc from rfl]
  rw [PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
  by_cases h0 : t.val % 8 = 0
  on_goal 1 => iapply (frame_fill (F := F) c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((cond1_iff t).mpr h0) (grow_iff t) (last_not_first t) Set.univ _)
  on_goal 2 => iapply (frame_keep (F := F) c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((cond1_iff t).mp h)) (grow_iff t) (last_not_first t) Set.univ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitr [Hg]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

/-- The library's body obligation, the outputs forgotten. -/
theorem body_obligation : Pipeline.BodyObligationLoose (dat m c) (defs₀ (F := F)) Variants.none () Set.univ marked := fun t => by
  rw [bigSep_W0, bigSep_W0, defs₀_row]
  exact triple_restated (sound_body m c t) rfl .rfl fun _ => .rfl

set_option backward.isDefEq.respectTransparency.types false in
/-- The launch. -/
theorem run_main_quiescent : θ_run defs (onTc (τ := τ) (main (F := F))) (s₀ m ρ)
    (fun r => Pipeline.RDat.FramePost cfg0 (fun c => (dat m c).toRForget marked) (V m) r ∧ r.2.sem = fun _ => 0) :=
  Pipeline.θ_run_frame_forget_shared (Q' := _) cfgs (fun p c => match p with | 0 => dat m c | ⟨_ + 1, h⟩ => absurd h (Nat.not_lt.2 (Nat.le_add_left _ _)))
    (0 : Fin 1) launch₀0 defs₀ Variants.none marked m ρ main
    (hbody := fun c => body_obligation m c) (hq := fun _ _ _ => rfl)
    (howed := fun _ _ => rfl) (V := V m) (hmain := hmain m Variants.none) (hA := A_eq m) (hΦ := fun _ _ => rfl)

/-- An input's array ends as the region found it. -/
theorem in_eq {w : Fin cfg0.W} (hw : (cfg0.win w).isOut = false) {G} (h : ((dat m c).toRForget marked).ArrAt w cfg0.N G) :
    G = V m c (Pipeline.arrRef spec0 w) :=
  ((congrFun (Pipeline.RDat.ArrAt_in ((dat m c).toRForget marked) w hw cfg0.N) G).mp h).trans (A_eq m c w)

/-- The arguments end unchanged. -/
theorem kept {r : PUnit × MemSt nD τ sig (Elt F)} (h : Pipeline.RDat.FramePost cfg0 (fun c => (dat m c).toRForget marked) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(in_eq m c (w := 0) rfl ((h c).1 0)).trans (V_main_arg0 m c),
    (in_eq m c (w := 1) rfl ((h c).1 1)).trans (V_main_arg1 m c),
    ((h c).2 main_arg2 (Pipeline.mem_restRefs_of main_arg2 (by decide) (by decide))).trans (V_main_arg2 m c),
    (in_eq m c (w := 4) rfl ((h c).1 4)).trans (V_main_arg3 m c),
    (in_eq m c (w := 6) rfl ((h c).1 6)).trans (V_main_arg4 m c),
    ((h c).2 main_arg5 (Pipeline.mem_restRefs_of main_arg5 (by decide) (by decide))).trans (V_main_arg5 m c),
    (in_eq m c (w := 10) rfl ((h c).1 10)).trans (V_main_arg6 m c),
    (in_eq m c (w := 11) rfl ((h c).1 11)).trans (V_main_arg7 m c)⟩

/-- The frame, with every counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨kept m h.1, h.2⟩) (run_main_quiescent m ρ)

end Cert.GateUp.Gen

end
-- ==== Proof.GateUpKeepRun.lean ====
/- What the body leaves at a grid point past the first of its column block: the weights are kept. -/
module

public import proofs.«01_k».proof.Proof.Gen.GateUpIdeal.Frame
public import proofs.«01_k».proof.Proof.Gen.GateUpIdeal.Skeleton
public import proofs.«01_k».proof.Proof.Gen.GateUpIdeal.Loops
public import proofs.«01_k».proof.Proof.Gen.GateUpIdeal.Points
public import Idealize.ShloMosaic.Lib.Pipeline.FrameBody
public import Idealize.ShloMosaic.Lib.Tactic
public import Idealize.ShloMosaic.Lib.WordCmp
public import proofs.«01_k».proof.Proof.GateUpLeft

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.VecWindow (window put)

variable {F : FTy → Type} [FloatOps F]

local notation "𝕄" => MT nD τ sig Unit (Elt F) ℕ (UR sig nD τ) ℕ

section Run

variable (c : Dev nD) (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x2x1024 .bf16) (harg17 : arg17.IsWhole)
  (arg18 : Memref sig .tc .vmem S4096x64 .f32) (harg18 : arg18.IsWhole)
  (x0 : Vec F S512x8192 .bf16) (x1 : Vec F S512x64 .bf16) (x2 : Vec F S1x128 .f32) (x3 x4 : Vec F S4096x512 .i8) (x5 x6 : Vec F S128x512 .i8)
  (x7 x8 : Vec F S2x128x1 .f32) (x9 x10 : Vec F S64x512 .bf16) (x11 : Vec F S512x64 .bf16)
  (y15 : Vec F S4096x64 .bf16) (s16 : Vec F S8192x1024 .bf16) (s18 : Vec F S4096x64 .f32)

set_option backward.proofsInPublic true in
set_option maxHeartbeats 8000000 in
/-- What the body leaves at a grid point past the first of its column block: the weights are kept. -/
theorem run_keep (ho : ∀ a, rowOff i a + S512x64.size a ≤ S4096x64.size a) (hc1 : ¬ k0_cond1 i = 1#1) (h23 : k0_cond3 i = 1#1 ↔ ¬ k0_cond2 i = 1#1) (h24 : k0_cond4 i = 1#1 → ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d) ∗ owns (c : Thread nD τ) arg15 fullShare y15
        ∗ owns (c : Thread nD τ) arg16 fullShare s16 ∗ (∃ d, owns (c : Thread nD τ) arg17 fullShare d) ∗ owns (c : Thread nD τ) arg18 fullShare s18
        ∗ (iprop(∃ X14 X15 X16 X18, ⌜X16 = s16 ∧ Left i ho x0 x1 x9 x10 x11 y15 s18 X14 X15 X16 X18⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
          ∗ owns (c : Thread nD τ) arg14 fullShare X14 ∗ owns (c : Thread nD τ) arg15 fullShare X15
          ∗ owns (c : Thread nD τ) arg16 fullShare X16 ∗ (∃ d, owns (c : Thread nD τ) arg17 fullShare d) ∗ owns (c : Thread nD τ) arg18 fullShare X18) -∗ K ⟨⟩))
      ⊢ wp frame (wpE (defs₀ (F := F)) Variants.none c none) E (cc0_gate_up i
        arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18) K := by
  rcases Classical.em (k0_cond4 i = 1#1) with hc4 | hc4
  on_goal 2 => rcases Classical.em (k0_cond2 i = 1#1) with hc2 | hc2
  on_goal 2 => have hc3 : ¬ k0_cond3 i = 1#1 := fun h => h23.1 h hc2
  on_goal 3 => have hc3 : k0_cond3 i = 1#1 := h23.2 hc2
  on_goal 1 => have hc2 : ¬ k0_cond2 i = 1#1 := h24 hc4
  on_goal 1 => have hc3 : k0_cond3 i = 1#1 := h23.2 hc2
  all_goals
    simp only [cc0_gate_up_eq_skeleton]; unfold cc0_gate_up_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f16, %hf16, H16⟩, ⟨%d17, %f17, -, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg15.eq_unread hf13; obtain rfl := harg16.eq_unread hf16; obtain rfl := harg18.eq_unread hf18
    sl_exec (disch := first | sl_exact hc1 | sl_exact hc2 | sl_exact hc3 | sl_exact hc4)
    sl_step
    iapply Hk
    iexists _, _, _, _
    isplitr
    swap
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; swap; · iexact H12
      ipureintro; rfl
    isplitl [H13]
    · iexists _; isplitr; swap; · iexact H13
      ipureintro; rfl
    isplitl [H16]
    · iexists _; isplitr; swap; · iexact H16
      ipureintro; rfl
    isplitl [H17]
    · iexists _, _; isplitr; swap; · iexact H17
      ipureintro; rfl
    iexists _; isplitr; swap; · iexact H18
    ipureintro; rfl
  · ipureintro
    refine ⟨harg16.read_unread _, ?_⟩
    exact left_last (i := i) (ho := ho) (hc2 := hc2) (hc4 := hc4) (e := off9_eq i) ..
  · ipureintro
    refine ⟨harg16.read_unread _, ?_⟩
    exact left_first (i := i) (ho := ho) (hc2 := hc2) (hc4 := hc4) ..
  · ipureintro
    refine ⟨harg16.read_unread _, ?_⟩
    exact left_mid (i := i) (ho := ho) (hc2 := hc2) (hc4 := hc4) ..

end Run

end Cert.GateUpIdeal.Gen

end
-- ==== Proof.GateUpFillRun.lean ====
/- What the body leaves at the first grid point of a column block: the weights are dequantised. -/
module

public import proofs.«01_k».proof.Proof.Gen.GateUpIdeal.Frame
public import proofs.«01_k».proof.Proof.Gen.GateUpIdeal.Skeleton
public import proofs.«01_k».proof.Proof.Gen.GateUpIdeal.Loops
public import proofs.«01_k».proof.Proof.Gen.GateUpIdeal.Points
public import Idealize.ShloMosaic.Lib.Pipeline.FrameBody
public import Idealize.ShloMosaic.Lib.Tactic
public import Idealize.ShloMosaic.Lib.WordCmp
public import proofs.«01_k».proof.Proof.GateUpLeft

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.VecWindow (window put)

variable {F : FTy → Type} [FloatOps F]

local notation "𝕄" => MT nD τ sig Unit (Elt F) ℕ (UR sig nD τ) ℕ

section Run

variable (c : Dev nD) (i : grid0.Coords)
  (arg2 : Memref sig .tc .vmem S512x8192 .bf16) (harg2 : arg2.IsWhole) (arg3 : Memref sig .tc .vmem S512x64 .bf16) (harg3 : arg3.IsWhole)
  (arg4 : Memref sig .tc .vmem S1x128 .f32) (harg4 : arg4.IsWhole) (arg5 : Memref sig .tc .vmem S4096x512 .i8) (harg5 : arg5.IsWhole)
  (arg6 : Memref sig .tc .vmem S4096x512 .i8) (harg6 : arg6.IsWhole) (arg7 : Memref sig .tc .vmem S128x512 .i8) (harg7 : arg7.IsWhole)
  (arg8 : Memref sig .tc .vmem S128x512 .i8) (harg8 : arg8.IsWhole) (arg9 : Memref sig .tc .vmem S2x128x1 .f32) (harg9 : arg9.IsWhole)
  (arg10 : Memref sig .tc .vmem S2x128x1 .f32) (harg10 : arg10.IsWhole) (arg11 : Memref sig .tc .vmem S64x512 .bf16) (harg11 : arg11.IsWhole)
  (arg12 : Memref sig .tc .vmem S64x512 .bf16) (harg12 : arg12.IsWhole) (arg13 : Memref sig .tc .vmem S512x64 .bf16) (harg13 : arg13.IsWhole)
  (arg14 : Memref sig .tc .vmem S512x512 .bf16) (harg14 : arg14.IsWhole) (arg15 : Memref sig .tc .vmem S4096x64 .bf16) (harg15 : arg15.IsWhole)
  (arg16 : Memref sig .tc .vmem S8192x1024 .bf16) (harg16 : arg16.IsWhole) (arg17 : Memref sig .tc .vmem S128x2x1024 .bf16) (harg17 : arg17.IsWhole)
  (arg18 : Memref sig .tc .vmem S4096x64 .f32) (harg18 : arg18.IsWhole)
  (x0 : Vec F S512x8192 .bf16) (x1 : Vec F S512x64 .bf16) (x2 : Vec F S1x128 .f32) (x3 x4 : Vec F S4096x512 .i8) (x5 x6 : Vec F S128x512 .i8)
  (x7 x8 : Vec F S2x128x1 .f32) (x9 x10 : Vec F S64x512 .bf16) (x11 : Vec F S512x64 .bf16)
  (y15 : Vec F S4096x64 .bf16) (s16 : Vec F S8192x1024 .bf16) (s18 : Vec F S4096x64 .f32)

set_option backward.proofsInPublic true in
set_option maxHeartbeats 8000000 in
/-- What the body leaves at the first grid point of a column block: the weights are dequantised. -/
theorem run_fill (ho : ∀ a, rowOff i a + S512x64.size a ≤ S4096x64.size a) (hc1 : k0_cond1 i = 1#1) (h23 : k0_cond3 i = 1#1 ↔ ¬ k0_cond2 i = 1#1) (h24 : k0_cond4 i = 1#1 → ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d) ∗ owns (c : Thread nD τ) arg15 fullShare y15
        ∗ owns (c : Thread nD τ) arg16 fullShare s16 ∗ (∃ d, owns (c : Thread nD τ) arg17 fullShare d) ∗ owns (c : Thread nD τ) arg18 fullShare s18
        ∗ (iprop(∃ X14 X15 X16 X18, ⌜X16 = View.read (Elt F) arg16.view (filled c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 s16 hc1) ∧ Left i ho x0 x1 x9 x10 x11 y15 s18 X14 X15 X16 X18⌝ ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
          ∗ owns (c : Thread nD τ) arg14 fullShare X14 ∗ owns (c : Thread nD τ) arg15 fullShare X15
          ∗ owns (c : Thread nD τ) arg16 fullShare X16 ∗ (∃ d, owns (c : Thread nD τ) arg17 fullShare d) ∗ owns (c : Thread nD τ) arg18 fullShare X18) -∗ K ⟨⟩))
      ⊢ wp frame (wpE (defs₀ (F := F)) Variants.none c none) E (cc0_gate_up i
        arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18) K := by
  rcases Classical.em (k0_cond4 i = 1#1) with hc4 | hc4
  on_goal 2 => rcases Classical.em (k0_cond2 i = 1#1) with hc2 | hc2
  on_goal 2 => have hc3 : ¬ k0_cond3 i = 1#1 := fun h => h23.1 h hc2
  on_goal 3 => have hc3 : k0_cond3 i = 1#1 := h23.2 hc2
  on_goal 1 => have hc2 : ¬ k0_cond2 i = 1#1 := h24 hc4
  on_goal 1 => have hc3 : k0_cond3 i = 1#1 := h23.2 hc2
  all_goals
    simp only [cc0_gate_up_eq_skeleton]; unfold cc0_gate_up_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f16, %hf16, H16⟩, ⟨%d17, %f17, -, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg15.eq_unread hf13; obtain rfl := harg16.eq_unread hf16; obtain rfl := harg18.eq_unread hf18
    sl_exec (disch := first | sl_exact hc1 | sl_exact hc2 | sl_exact hc3 | sl_exact hc4)
    sl_step
    iapply Hk
    iexists _, _, _, _
    isplitr
    swap
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; swap; · iexact H12
      ipureintro; rfl
    isplitl [H13]
    · iexists _; isplitr; swap; · iexact H13
      ipureintro; rfl
    isplitl [H16]
    · iexists _; isplitr; swap; · iexact H16
      ipureintro; rfl
    isplitl [H17]
    · iexists _, _; isplitr; swap; · iexact H17
      ipureintro; rfl
    iexists _; isplitr; swap; · iexact H18
    ipureintro; rfl
  · ipureintro
    refine ⟨by first | rfl | (sl_unfold_words; rfl), ?_⟩
    exact left_last (i := i) (ho := ho) (hc2 := hc2) (hc4 := hc4) (e := off9_eq i) ..
  · ipureintro
    refine ⟨by first | rfl | (sl_unfold_words; rfl), ?_⟩
    exact left_first (i := i) (ho := ho) (hc2 := hc2) (hc4 := hc4) ..
  · ipureintro
    refine ⟨by first | rfl | (sl_unfold_words; rfl), ?_⟩
    exact left_mid (i := i) (ho := ho) (hc2 := hc2) (hc4 := hc4) ..

end Run

end Cert.GateUpIdeal.Gen

end
-- ==== Proof.GateUpDat.lean ====
/- The fused gate/up kernel's proof data: the weights the scratch keeps over a column block, the rows its accumulator
   has summed, the rows the projection's buffer holds; the body keeps all three. -/
module

public import proofs.«01_k».proof.Proof.GateUpKeepRun
public import proofs.«01_k».proof.Proof.GateUpFillRun
public import proofs.«01_k».proof.Proof.GateUpSum
public import Idealize.ShloMosaic.Lib.Pipeline.DatRel

@[expose] public section

set_option maxRecDepth 16384

noncomputable section

namespace Cert.GateUpIdeal.Tile

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.VecWindow (window put)

local notation "𝕄" => MT nD τ sig Unit (Elt Ideal) ℕ (UR sig nD τ) ℕ

variable (m : (ℓ : Loc nD τ sig) → Buf (Elt Ideal) ℓ) (c : Dev nD)

/-! ## The buffers -/

abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x64 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4096x64 .bf16 := win0_13.stage (cfg0.slots t 13)
abbrev hs0_13 (t : Fin cfg0.N) : (ms0_13 t).IsWhole := hstage0_13 ((cfg0.slots t 13).cast nbuf0_13)
abbrev scM0_0 : Memref sig .tc .vmem S8192x1024 .bf16 := Memref.whole cc0_scratch0
abbrev scM0_1 : Memref sig .tc .vmem S128x2x1024 .bf16 := Memref.whole cc0_scratch1
abbrev scM0_2 : Memref sig .tc .vmem S4096x64 .f32 := Memref.whole cc0_scratch2

/-- What the launch hands the region, buffer by buffer. -/
theorem PhiA0_eq :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the buffers hold -/

/-- The dequantised weights of a point's column block. -/
abbrev Wt (t : Fin cfg0.N) : Vec Ideal S8192x1024 .bf16 :=
  wtile (V m c main_v1) (V m c main_arg3) (V m c main_arg4) (V m c main_v3) t

/-- The gated product's block at a point. -/
abbrev H (t : Fin cfg0.N) : Vec Ideal S512x512 .bf16 :=
  hblk (V m c main_arg0) (V m c main_arg1) (V m c main_v1) (V m c main_arg3) (V m c main_arg4) (V m c main_v3) (V m c main_arg6) t

/-- The part of the low-rank projection that a point adds. -/
abbrev Pr (t : Fin cfg0.N) : Vec Ideal S512x64 .f32 :=
  part (V m c main_arg0) (V m c main_arg1) (V m c main_v1) (V m c main_arg3) (V m c main_arg4) (V m c main_v3) (V m c main_arg6) (V m c main_arg7) t

/-- The invariant before point `k`: before the first, every scratch at anything; afterwards the weights of the
    column block, the accumulator's rows, the packed scales at anything. -/
def PhiS : ℕ → sProp 𝕄
  | 0 => Pipeline.ΦA spec0 c
  | k + 1 => iprop(iprop(owns (c : Thread nD τ) scM0_0 fullShare (Wt m c (pt k)) ∗ (∃ d, owns (c : Thread nD τ) scM0_1 fullShare d)
      ∗ (∃ S, ⌜AccOk (Pr m c) (k + 1) S⌝ ∗ owns (c : Thread nD τ) scM0_2 fullShare S)) ∗ (∃ r, prngReg c r))

/-- The pipeline's proof data: each input's buffer at its block, the gated product's at `H`; the projection's buffer is
    held to `held` instead. -/
def dat : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => H m c t
    | ⟨13, _⟩ => fun _ => (0 : EReal)
  Φ t := PhiS m c t.val
  q := Pipeline.shareOf spec0
  owed _ := 0

/-- The one window whose contents are told by a relation: the projection's. -/
def marked : Fin cfg0.W → Bool
  | ⟨13, _⟩ => true
  | _ => false

/-- After point `t` the projection's buffer holds the rows that every column block has been added to. -/
def held (w : Fin cfg0.W) (t : Fin cfg0.N) (X : (cfg0.win w).block.Idx → Elt Ideal (cfg0.win w).elt) : Prop :=
  match w, X with
  | ⟨13, _⟩, X => Done (Pr m c) (t.val + 1) X
  | _, _ => True

theorem A_eq (w : Fin cfg0.W) : (dat m c).A w = V m c (Pipeline.arrRef spec0 w) := by
  dsimp only [dat]

/-- What the body may find in the projection's buffer. -/
theorem finds13 (t : Fin cfg0.N) (Y : Vec Ideal S4096x64 .bf16) (h : ((dat m c).toRRel marked (held m c)).Finds 13 t Y) :
    Done (Pr m c) t.val Y := by
  have ht : t.val < 256 := Nat.lt_of_lt_of_eq t.isLt N_0
  by_cases hz : t.val = 0
  · rw [hz]; exact done_zero _ _
  · have hf : (cfg0.win 13).fetch t = false := rfl
    rcases (Pipeline.RDat.finds_of_pos _ hf hz Y).mp h with h | h
    · have := (flush0_13 _).mp h
      have e : (t.val - 1) % 256 = 255 := this
      omega
    · have h' : Done (Pr m c) (t.val - 1 + 1) Y := (dat m c).toRRel_leaves (fgt := marked) (Rl := held m c) (w := 13) rfl h
      rwa [Nat.sub_add_cancel (Nat.one_le_iff_ne_zero.mpr hz)] at h'

/-- The invariant opened: the weights are the column block's (past the first point), the accumulator's rows are summed. -/
theorem phi_open (k : ℕ) : PhiS m c k ⊢ iprop(∃ s16 s18, ⌜(k ≠ 0 → s16 = Wt m c (pt (k - 1))) ∧ AccOk (Pr m c) k s18⌝
    ∗ owns (c : Thread nD τ) scM0_0 fullShare s16 ∗ (∃ d, owns (c : Thread nD τ) scM0_1 fullShare d)
    ∗ owns (c : Thread nD τ) scM0_2 fullShare s18 ∗ (∃ r, prngReg c r)) := by
  cases k with
  | zero =>
    rw [show PhiS m c 0 = Pipeline.ΦA spec0 c from rfl, PhiA0_eq]
    iintro ⟨⟨⟨%s16, H0⟩, H1, ⟨%s18, H2⟩⟩, Hg⟩
    iexists s16, s18
    isplitr; · ipureintro; exact ⟨fun h => absurd rfl h, acc_zero _ _⟩
    isplitl [H0]; · iexact H0
    isplitl [H1]; · iexact H1
    isplitl [H2]; · iexact H2
    iexact Hg
  | succ k =>
    rw [show PhiS m c (k + 1) = iprop(iprop(owns (c : Thread nD τ) scM0_0 fullShare (Wt m c (pt k)) ∗ (∃ d, owns (c : Thread nD τ) scM0_1 fullShare d)
      ∗ (∃ S, ⌜AccOk (Pr m c) (k + 1) S⌝ ∗ owns (c : Thread nD τ) scM0_2 fullShare S)) ∗ (∃ r, prngReg c r)) from rfl]
    iintro ⟨⟨H0, H1, ⟨%s18, %hS, H2⟩⟩, Hg⟩
    iexists _, s18
    isplitr
    swap
    · isplitl [H0]; · iexact H0
      isplitl [H1]; · iexact H1
      isplitl [H2]; · iexact H2
      iexact Hg
    ipureintro; exact ⟨fun _ => rfl, hS⟩

/-- The invariant closed at the next point. -/
theorem phi_close (t : Fin cfg0.N) (s16 : Vec Ideal S8192x1024 .bf16) (s18 : Vec Ideal S4096x64 .f32) (hW : s16 = Wt m c t)
    (hS : AccOk (Pr m c) (t.val + 1) s18) :
    iprop(owns (c : Thread nD τ) scM0_0 fullShare s16 ∗ (∃ d, owns (c : Thread nD τ) scM0_1 fullShare d)
      ∗ owns (c : Thread nD τ) scM0_2 fullShare s18 ∗ (∃ r, prngReg c r)) ⊢ PhiS m c (t.val + 1) := by
  subst hW
  rw [show PhiS m c (t.val + 1) = iprop(iprop(owns (c : Thread nD τ) scM0_0 fullShare (Wt m c (pt t.val)) ∗ (∃ d, owns (c : Thread nD τ) scM0_1 fullShare d)
      ∗ (∃ S, ⌜AccOk (Pr m c) (t.val + 1) S⌝ ∗ owns (c : Thread nD τ) scM0_2 fullShare S)) ∗ (∃ r, prngReg c r)) from rfl, pt_val]
  iintro ⟨H0, H1, H2, Hg⟩
  isplitl [H0 H1 H2]
  · isplitl [H0]; · iexact H0
    isplitl [H1]; · iexact H1
    iexists _
    isplitr
    swap; · iexact H2
    ipureintro; exact hS
  iexact Hg

theorem grow_iff (t : Fin cfg0.N) : k0_cond3 (grid0.coords t) = 1#1 ↔ ¬ k0_cond2 (grid0.coords t) = 1#1 := by
  rw [cond3_iff, cond2_iff]

theorem last_not_first (t : Fin cfg0.N) (h : k0_cond4 (grid0.coords t) = 1#1) : ¬ k0_cond2 (grid0.coords t) = 1#1 := by
  rw [cond4_iff] at h; rw [cond2_iff]; omega

/-- What the body is called with at point `t`, the windows one by one, -/
def bodyPre (t : Fin cfg0.N) : sProp 𝕄 :=
  iprop(PhiS m c t.val ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare ((dat m c).before 9 t d))
    ∗ (∃ d, owns (c : Thread nD τ) (ms0_10 t) fullShare ((dat m c).before 10 t d))
    ∗ (∃ d, owns (c : Thread nD τ) (ms0_11 t) fullShare ((dat m c).before 11 t d))
    ∗ (∃ d, owns (c : Thread nD τ) (ms0_12 t) fullShare ((dat m c).before 12 t d))
    ∗ (∃ Y, ⌜((dat m c).toRRel marked (held m c)).Finds 13 t Y⌝ ∗ owns (c : Thread nD τ) (ms0_13 t) fullShare Y))

/-- and what it returns. -/
def bodyPost (t : Fin cfg0.N) : sProp 𝕄 :=
  iprop(PhiS m c (t.val + 1) ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ owns (c : Thread nD τ) (ms0_9 t) fullShare ((dat m c).after 9 t)
    ∗ owns (c : Thread nD τ) (ms0_10 t) fullShare ((dat m c).after 10 t)
    ∗ owns (c : Thread nD τ) (ms0_11 t) fullShare ((dat m c).after 11 t)
    ∗ owns (c : Thread nD τ) (ms0_12 t) fullShare ((dat m c).after 12 t)
    ∗ (∃ X, ⌜held m c 13 t X⌝ ∗ owns (c : Thread nD τ) (ms0_13 t) fullShare X))

/-- What the body leaves meets the proof data, from the weights it leaves and `Left`. -/
theorem close (t : Fin cfg0.N) (y15 : Vec Ideal S4096x64 .bf16) (s18 : Vec Ideal S4096x64 .f32)
    (X14 : Vec Ideal S512x512 .bf16) (X15 : Vec Ideal S4096x64 .bf16) (X16 : Vec Ideal S8192x1024 .bf16) (X18 : Vec Ideal S4096x64 .f32)
    (hS : AccOk (Pr m c) t.val s18) (hY : Done (Pr m c) t.val y15) (hW : X16 = Wt m c t)
    (hL : Left (grid0.coords t) (rowOff_le t) (iblk m c 0 t) (iblk m c 1 t) (iblk m c 9 t) (iblk m c 10 t) (iblk m c 11 t) y15 s18 X14 X15 X16 X18) :
    X14 = H m c t ∧ AccOk (Pr m c) (t.val + 1) X18 ∧ Done (Pr m c) (t.val + 1) X15 := by
  subst hW
  exact ⟨hL.1, acc_step (Pr m c) t _ _ _ _ _ _ _ _ _ _ _ rfl hL hS, done_step (Pr m c) t _ _ _ _ _ _ _ _ _ _ _ rfl hL hS hY⟩

set_option maxHeartbeats 6400000 in
/-- The body at any point keeps the proof data. -/
theorem sound_body (t : Fin cfg0.N) :
    bodyPre m c t ⊢ wp frame (wpE (defs₀ (F := Ideal)) Variants.none c none) Set.univ (bodyAt0 t) (fun _ => bodyPost m c t) := by
  have ht : t.val < 256 := Nat.lt_of_lt_of_eq t.isLt N_0
  unfold bodyPre bodyPost bodyAt0
  simp only [before0_0_of m (dat m c) (A_eq m c 0) (fun _ => by dsimp only [dat]) t,
    before0_1_of m (dat m c) (A_eq m c 1) (fun _ => by dsimp only [dat]) t,
    before0_2_of m (dat m c) (A_eq m c 2) (fun _ => by dsimp only [dat]) t,
    before0_3_of m (dat m c) (A_eq m c 3) (fun _ => by dsimp only [dat]) t,
    before0_4_of m (dat m c) (A_eq m c 4) (fun _ => by dsimp only [dat]) t,
    before0_5_of m (dat m c) (A_eq m c 5) (fun _ => by dsimp only [dat]) t,
    before0_6_of m (dat m c) (A_eq m c 6) (fun _ => by dsimp only [dat]) t,
    before0_7_of m (dat m c) (A_eq m c 7) (fun _ => by dsimp only [dat]) t,
    before0_8_of m (dat m c) (A_eq m c 8) (fun _ => by dsimp only [dat]) t,
    before0_9_of m (dat m c) (A_eq m c 9) (fun _ => by dsimp only [dat]) t,
    before0_10_of m (dat m c) (A_eq m c 10) (fun _ => by dsimp only [dat]) t,
    before0_11_of m (dat m c) (A_eq m c 11) (fun _ => by dsimp only [dat]) t]
  rw [show (dat m c).owesAt () t.succ = (dat m c).owesAt () t.castSucc from rfl]
  refine (Idealize.SL.BI.Laws.sep_mono_left (phi_open m c t.val)).trans ?_
  iintro ⟨⟨%s16, %s18, %hs, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%y15, %hy, H13⟩⟩
  obtain ⟨hw, hacc⟩ := hs
  have hY := finds13 m c t y15 hy
  by_cases h0 : t.val % 8 = 0
  on_goal 1 => iapply (run_fill (F := Ideal) c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) y15 s16 s18 (rowOff_le t) ((cond1_iff t).mpr h0) (grow_iff t) (last_not_first t) Set.univ _)
  on_goal 2 => iapply (run_keep (F := Ideal) c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) y15 s16 s18 (rowOff_le t) (fun h => h0 ((cond1_iff t).mp h)) (grow_iff t) (last_not_first t) Set.univ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    isplitl [HS1]; · iexact HS1
    isplitl [HS2]; · iexact HS2
    iintro ⟨%X14, %X15, %X16, %X18, %hX, H0, H1, H2, H3, H4, H5, H6, H7, H8, H9, H10, H11, H12, H13, HS0, HS1, HS2⟩
    obtain ⟨hX, hL⟩ := hX
  on_goal 1 => have hW : X16 = Wt m c t := hX.trans (filled_read ..)
  on_goal 2 => have hW : X16 = Wt m c t := hX.trans ((hw (by omega)).trans (wtile_congr _ _ _ _ _ _ (by show (t.val - 1) % 256 / 8 = t.val / 8; omega)))
  all_goals
    obtain ⟨e14, hacc', hY'⟩ := close m c t y15 s18 X14 X15 X16 X18 hacc hY hW hL
    subst e14
    isplitl [HS0 HS1 HS2 Hg]
    · iapply (phi_close m c t X16 X18 hW hacc')
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists X15
    isplitr
    swap; · iexact H13
    ipureintro; exact hY'

theorem defs₀_row (t : Fin cfg0.N) :
    defs₀ (F := Ideal) .tc cfg0.body (cfg0.bodyArgs t (cfg0.slots t)) = bodyAt0 t := by
  unfold defs₀; rw [Defs.onTc_tc]

/-- The library's body obligation, the projection's window held to `held`. -/
theorem body_obligation : Pipeline.BodyObligationRel (dat m c) (defs₀ (F := Ideal)) Variants.none () Set.univ marked (held m c) := fun t => by
  rw [bigSep_W0, bigSep_W0, defs₀_row]
  exact triple_restated (sound_body m c t) rfl .rfl fun _ => .rfl

/-- What the launch hands the region is the invariant before the first point. -/
theorem hin : Pipeline.ΦA spec0 c ⊢ (dat m c).Φ 0 := .rfl

/-- After the last point it is handed back. -/
theorem hout : (dat m c).Φ (Fin.last cfg0.N) ⊢ Pipeline.ΦA spec0 c := by
  rw [show (dat m c).Φ (Fin.last cfg0.N) = PhiS m c (cfg0.N) from rfl]
  refine (phi_open m c _).trans ?_
  rw [PhiA0_eq]
  iintro ⟨%s16, %s18, %hs, HS0, HS1, HS2, Hg⟩
  isplitl [HS0 HS1 HS2]
  · isplitl [HS0]; · iexists _; iexact HS0
    isplitl [HS1]; · iexact HS1
    iexists _; iexact HS2
  iexact Hg

end Cert.GateUpIdeal.Tile

end
-- ==== Proof.GateUpRun.lean ====
/- The fused gate/up kernel's run: its arguments end unchanged, the machine is quiescent, and its two results are the
   gated product and its low-rank projection. -/
module

public import proofs.«01_k».proof.Proof.GateUpDat
public import Idealize.ShloMosaic.Lib.Pipeline.ArrRel

@[expose] public section

set_option maxRecDepth 16384

noncomputable section

namespace Cert.GateUpIdeal.Tile

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.VecWindow (window put)

variable (m : (ℓ : Loc nD τ sig) → Buf (Elt Ideal) ℓ) (ρ : Dev nD → PrngReg) (c : Dev nD)

/-- The proof data, the projection's window held to its relation. -/
abbrev rel := (dat m c).toRRel marked (held m c)

set_option backward.isDefEq.respectTransparency.types false in
/-- The launch. -/
theorem run_main_quiescent : θ_run defs (onTc (τ := τ) (main (F := Ideal))) (s₀ m ρ)
    (fun r => Pipeline.RDat.FramePost cfg0 (fun c => rel m c) (V m) r ∧ r.2.sem = fun _ => 0) :=
  Pipeline.RDat.θ_run_frame_track_shared (Q' := _) cfgs (0 : Fin 1) launch₀0 defs₀ Variants.none (fun c => rel m c) m ρ main
    (hbody := fun c => (body_obligation m c).toRRel) (hq := fun _ _ _ => rfl)
    (howed := fun _ _ => rfl) (V := V m) (hmain := hmain m Variants.none) (hA := A_eq m) (hin := hin m) (hout := hout m)

/-- An input's array ends as the region found it. -/
theorem in_eq {w : Fin cfg0.W} (hw : (cfg0.win w).isOut = false) {G} (h : (rel m c).ArrAt w cfg0.N G) :
    G = V m c (Pipeline.arrRef spec0 w) :=
  ((congrFun (Pipeline.RDat.ArrAt_in (rel m c) w hw cfg0.N) G).mp h).trans (A_eq m c w)

/-- The arguments end unchanged. -/
theorem kept {r : PUnit × MemSt nD τ sig (Elt Ideal)} (h : Pipeline.RDat.FramePost cfg0 (fun c => rel m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(in_eq m c (w := 0) rfl ((h c).1 0)).trans (V_main_arg0 m c),
    (in_eq m c (w := 1) rfl ((h c).1 1)).trans (V_main_arg1 m c),
    ((h c).2 main_arg2 (Pipeline.mem_restRefs_of main_arg2 (by decide) (by decide))).trans (V_main_arg2 m c),
    (in_eq m c (w := 4) rfl ((h c).1 4)).trans (V_main_arg3 m c),
    (in_eq m c (w := 6) rfl ((h c).1 6)).trans (V_main_arg4 m c),
    ((h c).2 main_arg5 (Pipeline.mem_restRefs_of main_arg5 (by decide) (by decide))).trans (V_main_arg5 m c),
    (in_eq m c (w := 10) rfl ((h c).1 10)).trans (V_main_arg6 m c),
    (in_eq m c (w := 11) rfl ((h c).1 11)).trans (V_main_arg7 m c)⟩

/-- The frame, with every counter of the machine at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨kept m h.1, h.2⟩) (run_main_quiescent m ρ)

/-- The gated product over the arrays the region finds. -/
def hgated : Vec Ideal S4096x16384 .bf16 := fun i =>
  hval (V m c main_arg0) (V m c main_arg1) (V m c main_v1) (V m c main_arg3) (V m c main_arg4) (V m c main_v3) (V m c main_arg6) (i 0) (i 1)

/-- Its low-rank projection, scaled. -/
def haout : Vec Ideal S4096x64 .bf16 := fun i => acc (Pr m c) 32 (i 0) (i 1) * quarter

/-- The gated product's array after the run. -/
theorem final12 {G} (h : (rel m c).ArrAt 12 cfg0.N G) : G = hgated m c := by
  obtain ⟨X, hX, hA⟩ := h.exists_exact
  refine (hA (Function.update (fun _ _ _ => Classical.arbitrary _) 12 X) fun u _ _ => by rw [Function.update_self]).trans ?_
  refine Pipeline.Dat.arrAt_eq_of_cover _ 12 _ (fun t hf => ?_) (fun i => ?_)
  · have e : X t = H m c t := by
      obtain ⟨Y, -, hY⟩ := hX t t.isLt hf
      rw [(dat m c).toRRel_after_of_eq_false (fgt := marked) (Rl := held m c) (w := 12) rfl] at hY
      exact hY
    funext y
    obtain ⟨r, j, rfl⟩ : ∃ (r j : Fin 512), y = ix2 r j := ⟨y 0, y 1, eq_ix2 y⟩
    have hq := div_lt t
    have hu : (Function.update (fun _ _ _ => Classical.arbitrary _) 12 X : (w' : Fin cfg0.W) → Fin cfg0.N → (cfg0.win w').block.Idx → Elt Ideal (cfg0.win w').elt) 12 t = H m c t := by
      rw [Function.update_self, e]
    refine (congrFun hu (ix2 r j)).trans ?_
    refine (hblk_at _ _ _ _ _ _ _ t r j ⟨t.val % 8 * 512 + r.val, by omega⟩ ⟨t.val / 8 * 512 + j.val, by omega⟩ rfl rfl).trans ?_
    exact (congrArg (hgated m c) (emb12 t r ⟨t.val % 8 * 512 + r.val, by omega⟩ j ⟨t.val / 8 * 512 + j.val, by omega⟩ rfl rfl)).symm
  · have h0 : (i 0).val < 4096 := (i 0).isLt
    have h1 : (i 1).val < 16384 := (i 1).isLt
    let t : Fin cfg0.N := ⟨8 * ((i 1).val / 512) + (i 0).val / 512, by have : cfg0.N = 256 := N_0; omega⟩
    refine ⟨t, flush0_12 t, ?_⟩
    have e : ((cfg0.win 12).blk t).view.emb (ix2 ⟨(i 0).val % 512, by omega⟩ ⟨(i 1).val % 512, by omega⟩) = i :=
      (emb12 t _ (i 0) _ (i 1) (by show (i 0).val = (8 * ((i 1).val / 512) + (i 0).val / 512) % 8 * 512 + (i 0).val % 512; omega)
        (by show (i 1).val = (8 * ((i 1).val / 512) + (i 0).val / 512) / 8 * 512 + (i 1).val % 512; omega)).trans (eq_ix2 i).symm
    rw [← e]
    exact View.emb_mem_set _ _

/-- The projection's array after the run. -/
theorem final13 {G} (h : (rel m c).ArrAt 13 cfg0.N G) : G = haout m c := by
  obtain ⟨X, hX, hA⟩ := h.exists_exact
  refine (hA (Function.update (fun _ _ _ => Classical.arbitrary _) 13 X) fun u _ _ => by rw [Function.update_self]).trans ?_
  refine Pipeline.Dat.arrAt_eq_of_cover _ 13 _ (fun t hf => ?_) (fun i => ?_)
  · have e : Done (Pr m c) (t.val + 1) (X t) := (dat m c).toRRel_leaves (fgt := marked) (Rl := held m c) (w := 13) rfl (hX t t.isLt hf)
    have ht : t.val < 256 := Nat.lt_of_lt_of_eq t.isLt N_0
    have hl := (flush0_13 t).mp hf
    funext y
    obtain ⟨r, j, rfl⟩ : ∃ (r : Fin 4096) (j : Fin 64), y = ix2 r j := ⟨y 0, y 1, @eq_ix2 4096 64 y⟩
    have hr : r.val < 4096 := r.isLt
    have hu : (Function.update (fun _ _ _ => Classical.arbitrary _) 13 X : (w' : Fin cfg0.W) → Fin cfg0.N → (cfg0.win w').block.Idx → Elt Ideal (cfg0.win w').elt) 13 t = X t := by
      rw [Function.update_self]
    refine (congrFun hu (ix2 r j)).trans ?_
    refine (e r j (by unfold cnt; omega)).trans ?_
    exact (congrArg (haout m c) (emb13 t r j)).symm
  · refine ⟨pt 255, (flush0_13 _).mpr rfl, ?_⟩
    have e : ((cfg0.win 13).blk (pt 255)).view.emb i = i := by
      have := emb13 (pt 255) (i 0) (i 1)
      rwa [← @eq_ix2 4096 64 i] at this
    rw [← e]
    exact View.emb_mem_set _ _

/-- The run, its results read. -/
theorem run_values : θ_run defs (onTc (τ := τ) (main (F := Ideal))) ⟨m, fun _ => 0, ρ⟩ (fun r => ∀ c : Dev nD,
      r.2.mem ((c.tc : Thread nD τ).loc main_v4_0) = hgated m c
      ∧ r.2.mem ((c.tc : Thread nD τ).loc main_v4_1) = haout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨final12 m c ((h.1 c).1 12), final13 m c ((h.1 c).1 13), kept m h.1 c⟩) (run_main_quiescent m ρ)

end Cert.GateUpIdeal.Tile

end
-- ==== Proof.GateUpTerm.lean ====
/- The reference's gated product and its low-rank projection at an index, and their equality with the fused kernel's
   formulas over the arrays its region finds. -/
module

public import proofs.«01_k».proof.Proof.Gen.GateUpRefIdeal.Read
public import proofs.«01_k».proof.Proof.DownAlg
public import proofs.«01_k».proof.Proof.GateUpSum
public import Idealize.ShloMosaic.Lib.IdealHost

@[expose] public section

set_option maxRecDepth 16384

noncomputable section

open Idealize.ShloMosaic Idealize.ShloMosaic.TcCoe Idealize.SL.Sem

namespace Cert.GateUpRefIdeal.Tile

open Cert.GateUpRefIdeal Cert.GateUpRefIdeal.Gen Cert.GateUpRefIdeal.Read
open Cert.DownIdeal.Tile (nib)
open Cert.DownRefIdeal.Tile (lo_ref hi_ref clamp_idx sitofp_sx)
open Cert.GateUpIdeal.Tile (gated quarter)

/-- The table index of row `k`, column `j`: the code of parity `k % 2` in byte row `k / 2`. -/
theorem idx_at (x3 : Vec Ideal S4096x32768 .i8) (k : Fin 8192) (j : Fin 32768) (p : Nat) (hp : k.val % 2 = p) :
    val_main_v22 (F := Ideal) x3 (ix2 k j) = BitVec.ofNat 32 (nib p (x3 (ix2 ⟨k.val / 2, by omega⟩ j))).val := by
  pointwise [val_main_v22, val_main_v21, val_main_v20, val_main_v19, val_main_v18, val_main_c_2, val_main_c_1, val_main_v8, val_main_v7, val_main_v6, val_main_v5, val_main_v4, val_main_v3, val_main_v2, val_main_v1, val_main_v0, val_main_c, val_main_c_0]
  have hr : p = 0 ∨ p = 1 := by omega
  rcases hr with rfl | rfl
  · simp only [dif_pos (show k.val % 2 < 1 by omega)]
    exact lo_ref _
  · simp only [dif_neg (show ¬ k.val % 2 < 1 by omega)]
    exact hi_ref _

/-- The gathered table entry. -/
theorem gather_at (x2 : Vec Ideal S16 .f32) (x3 : Vec Ideal S4096x32768 .i8) (k : Fin 8192) (j : Fin 32768) :
    val_main_v24 (F := Ideal) x2 x3 (ix2 k j) = x2 (ix1 (nib (k.val % 2) (x3 (ix2 ⟨k.val / 2, by omega⟩ j)))) := by
  have e : val_main_v23 (F := Ideal) x3 (ValueIdx.takeIdx (ix2 k j)) = BitVec.ofNat 32 (nib (k.val % 2) (x3 (ix2 ⟨k.val / 2, by omega⟩ j))).val :=
    (val_main_v23_apply x3 _).trans ((congrArg (val_main_v22 (F := Ideal) x3) ((eq_ix2 _).trans ((ix2_inj ..).2 ⟨rfl, rfl⟩))).trans
      (idx_at x3 k j _ rfl))
  refine (ValueIdx.gather_take_apply (by norm_num) gather_S16_S8192x32768x1_S8192x32768_n_0_n_n_0_2_1_wf _ _ _).trans ?_
  refine congrArg x2 ((ix1_inj ..).2 (Fin.ext ?_))
  exact (congrArg (fun w : BitVec 32 => min w.toInt.toNat (16 - 1)) e).trans (clamp_idx _)

/-- The dequantised weight. -/
theorem w_at (x2 : Vec Ideal S16 .f32) (x3 : Vec Ideal S4096x32768 .i8) (x4 : Vec Ideal S128x32768 .i8) (x5 : Vec Ideal S128x128 .f32)
    (k : Fin 8192) (j : Fin 32768) :
    val_main_v29 (F := Ideal) x2 x3 x4 x5 (ix2 k j) =
      (show EReal from x2 (ix1 (nib (k.val % 2) (x3 (ix2 ⟨k.val / 2, by omega⟩ j))))) *
        ((show EReal from FloatOps.sitofp (F := Ideal) .f32 (x4 (ix2 ⟨k.val / 64, by omega⟩ j))) *
          (show EReal from x5 (ix2 ⟨k.val / 64, by omega⟩ ⟨j.val / 256, by omega⟩))) := by
  refine Eq.trans ?_ (congrArg (fun a : EReal => a * ((show EReal from FloatOps.sitofp (F := Ideal) .f32 (x4 (ix2 ⟨k.val / 64, by omega⟩ j))) *
          (show EReal from x5 (ix2 ⟨k.val / 64, by omega⟩ ⟨j.val / 256, by omega⟩)))) (gather_at x2 x3 k j))
  pointwise [val_main_v29, val_main_v28, val_main_v27, val_main_v26, val_main_v25, val_main_v16, val_main_v15, val_main_v14,
    val_main_v13, val_main_v12, val_main_v11, val_main_v10, val_main_v9]
  rw [sitofp_sx]

/-- A pre-activation. -/
theorem pre_at (x0 : Vec Ideal S4096x8192 .bf16) (x1 : Vec Ideal S4096x64 .bf16) (x2 : Vec Ideal S16 .f32) (x3 : Vec Ideal S4096x32768 .i8)
    (x4 : Vec Ideal S128x32768 .i8) (x5 : Vec Ideal S128x128 .f32) (x6 : Vec Ideal S64x32768 .bf16) (r : Fin 4096) (j : Fin 32768) :
    val_main_v32 (F := Ideal) x0 x1 x2 x3 x4 x5 x6 (ix2 r j) =
      (∑ k : Fin 8192, (show EReal from x0 (ix2 r k)) * (show EReal from val_main_v29 (F := Ideal) x2 x3 x4 x5 (ix2 k j))) +
        ∑ k : Fin 64, (show EReal from x1 (ix2 r k)) * (show EReal from x6 (ix2 k j)) := by
  pointwise [val_main_v32, val_main_v31, val_main_v30]

/-- The quotient form of the logistic is the logistic. -/
theorem logistic_eq (g : Ideal .f32) :
    FloatOps.hostDivf (F := Ideal) (FloatOps.ofBits .f32 0x3F800000#32)
      (FloatOps.addf (FloatOps.ofBits .f32 0x3F800000#32) (FloatOps.hostUnary .exp (FloatOps.hostNegf g)))
      = FloatOps.logistic (F := Ideal) (φ := .f32) g := by
  show Ideal.div (Ideal.ofBits .f32 0x3F800000#32) (Ideal.ofBits .f32 0x3F800000#32 + Ideal.exp (-g)) = Ideal.logistic g
  rw [Ideal.ofBits_one_f32]; rfl

/-- The gated product. -/
theorem h_at (x0 : Vec Ideal S4096x8192 .bf16) (x1 : Vec Ideal S4096x64 .bf16) (x2 : Vec Ideal S16 .f32) (x3 : Vec Ideal S4096x32768 .i8)
    (x4 : Vec Ideal S128x32768 .i8) (x5 : Vec Ideal S128x128 .f32) (x6 : Vec Ideal S64x32768 .bf16) (r : Fin 4096) (f : Fin 16384) :
    val_main_v37 (F := Ideal) x0 x1 x2 x3 x4 x5 x6 (ix2 r f) =
      gated (val_main_v32 (F := Ideal) x0 x1 x2 x3 x4 x5 x6 (ix2 r ⟨f.val, by omega⟩))
        (val_main_v32 (F := Ideal) x0 x1 x2 x3 x4 x5 x6 (ix2 r ⟨16384 + f.val, by omega⟩)) := by
  have eg : val_main_v33 (F := Ideal) x0 x1 x2 x3 x4 x5 x6 (ix2 r f) = val_main_v32 (F := Ideal) x0 x1 x2 x3 x4 x5 x6 (ix2 r ⟨f.val, by omega⟩) :=
    (val_main_v33_apply x0 x1 x2 x3 x4 x5 x6 _).trans (congrArg _ ((eq_ix2 _).trans ((ix2_inj ..).2 ⟨rfl, rfl⟩)))
  have eu : val_main_v34 (F := Ideal) x0 x1 x2 x3 x4 x5 x6 (ix2 r f) = val_main_v32 (F := Ideal) x0 x1 x2 x3 x4 x5 x6 (ix2 r ⟨16384 + f.val, by omega⟩) :=
    (val_main_v34_apply x0 x1 x2 x3 x4 x5 x6 _).trans (congrArg _ ((eq_ix2 _).trans ((ix2_inj ..).2 ⟨rfl, rfl⟩)))
  have el := logistic_eq (val_main_v33 (F := Ideal) x0 x1 x2 x3 x4 x5 x6 (ix2 r f))
  refine Eq.trans (b := gated (val_main_v33 (F := Ideal) x0 x1 x2 x3 x4 x5 x6 (ix2 r f)) (val_main_v34 (F := Ideal) x0 x1 x2 x3 x4 x5 x6 (ix2 r f))) ?_
    (congrArg₂ gated eg eu)
  rw [val_main_v37_apply, val_main_v36_apply, val_main_v35_apply, val_main_call0_v5_apply, val_main_call0_v4_apply, val_main_call0_v3_apply,
    val_main_call0_v2_apply, val_main_call0_v1_apply, val_main_call0_v0_apply, val_main_call0_cst_apply, val_main_call0_cst_0_apply, el]
  rfl

/-- Its low-rank projection, scaled. -/
theorem ha_at (x0 : Vec Ideal S4096x8192 .bf16) (x1 : Vec Ideal S4096x64 .bf16) (x2 : Vec Ideal S16 .f32) (x3 : Vec Ideal S4096x32768 .i8)
    (x4 : Vec Ideal S128x32768 .i8) (x5 : Vec Ideal S128x128 .f32) (x6 : Vec Ideal S64x32768 .bf16) (x7 : Vec Ideal S16384x64 .bf16)
    (r : Fin 4096) (j : Fin 64) :
    val_main_v41 (F := Ideal) x0 x1 x2 x3 x4 x5 x6 x7 (ix2 r j) =
      (∑ f : Fin 16384, (show EReal from val_main_v37 (F := Ideal) x0 x1 x2 x3 x4 x5 x6 (ix2 r f)) * (show EReal from x7 (ix2 f j))) * quarter := by
  pointwise [val_main_v41, val_main_v40, val_main_cst, val_main_v39, val_main_v38, quarter]

end Cert.GateUpRefIdeal.Tile

namespace Cert.GateUpIdeal.Tile

open Cert.GateUpIdeal Cert.GateUpIdeal.Gen

/-- A row's sum over all the column blocks is its sum over all the columns. -/
theorem acc_eq (P : Fin cfg0.N → Vec Ideal S512x64 .f32) (G : Fin 16384 → EReal) (r : Fin 4096) (j : Fin 64)
    (h : ∀ q : Fin 32, P (pt (8 * q.val + r.val / 512)) (ix2 (loc r) j) = ∑ f : Fin 512, G ⟨q.val * 512 + f.val, by omega⟩) :
    acc P 32 r j = ∑ f : Fin 16384, G f := by
  unfold acc
  rw [Finset.sum_range]
  refine Eq.trans (b := ∑ p : Fin 32 × Fin 512, G (finProdFinEquiv (m := 32) (n := 512) p)) ?_
    (Equiv.sum_comp (finProdFinEquiv (m := 32) (n := 512)) G)
  rw [Fintype.sum_prod_type]
  refine Finset.sum_congr rfl fun q _ => (h q).trans (Finset.sum_congr rfl fun f _ => congrArg G (Fin.ext ?_))
  show q.val * 512 + f.val = f.val + 512 * q.val
  omega

variable (m : (ℓ : Loc nD τ sig) → Buf (Elt Ideal) ℓ) (c : Dev nD)

/-- The table row the region finds: the table's sixteen entries, then padding. -/
theorem tab_at (q : Fin 16) : (V m c main_v1 : Vec Ideal S1x128 .f32) (ix2 0 (q.castLE (by norm_num)))
    = (m ((c : Thread nD τ).loc main_arg2) : Vec Ideal S16 .f32) (ix1 q) := by
  entry_read
  simp only [hostOps0, hostOps0_1, hostOps0_2, List.flatten_cons, List.flatten_nil, List.append_nil, List.cons_append, List.nil_append]
  after_results_simp
  show shapeCast S1x128 (pad S128 ![0] ![112] ![0] (m ((c : Thread nD τ).loc main_arg2) : Vec Ideal S16 .f32)
    (sitofp (F := Ideal) FTy.f32 (constantI S_ 32 0#32)) pads_S16_S128_01120 h_S_) shapeCasts_S128_S1x128 (ix2 0 (Fin.castLE (by norm_num) q)) = _
  generalize (m ((c : Thread nD τ).loc main_arg2) : Vec Ideal S16 .f32) = X
  pointwise []
  exact (dif_pos (fun a => by
    obtain rfl : a = 0 := Subsingleton.elim (α := Fin 1) _ _
    exact q.isLt)).trans rfl

/-- The scale array the region finds, turned. -/
theorem s2_at (s : Fin 128) (g : Fin 128) : (V m c main_v3 : Vec Ideal S128x128x1 .f32) (ix3 s g 0)
    = (m ((c : Thread nD τ).loc main_arg5) : Vec Ideal S128x128 .f32) (ix2 g s) := by
  entry_read
  simp only [hostOps0, hostOps0_1, hostOps0_2, List.flatten_cons, List.flatten_nil, List.append_nil, List.cons_append, List.nil_append]
  after_results_simp
  generalize (m ((c : Thread nD τ).loc main_arg5) : Vec Ideal S128x128 .f32) = X
  pointwise []

/-- A pre-activation over the arrays the region finds is the reference's over the arguments. -/
theorem pre_eq (r : Fin 4096) (j : Fin 32768) :
    pre (V m c main_arg0) (V m c main_arg1) (V m c main_v1) (V m c main_arg3) (V m c main_arg4) (V m c main_v3) (V m c main_arg6) r j
      = Cert.GateUpRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) := by
  refine Eq.trans ?_ (Cert.GateUpRefIdeal.Tile.pre_at _ _ _ _ _ _ _ r j).symm
  unfold pre
  refine congrArg₂ (fun a b : EReal => a + b) (Finset.sum_congr rfl fun k _ => ?_) (Finset.sum_congr rfl fun k _ => ?_)
  · refine congrArg₂ (fun a b : EReal => a * b) (congrFun (V_main_arg0 m c) _) ?_
    refine Eq.trans ?_ (Cert.GateUpRefIdeal.Tile.w_at _ _ _ _ k j).symm
    unfold wval
    refine congrArg₂ (fun a b : EReal => a * b) ?_ (congrArg₂ (fun a b : EReal => a * b) ?_ (s2_at m c _ _))
    · rw [V_main_arg3]
      exact tab_at m c _
    · rw [V_main_arg4]
  · exact congrArg₂ (fun a b : EReal => a * b) (congrFun (V_main_arg1 m c) _) (congrFun (V_main_arg6 m c) _)

/-- The gated product likewise. -/
theorem h_eq (r : Fin 4096) (f : Fin 16384) :
    hval (V m c main_arg0) (V m c main_arg1) (V m c main_v1) (V m c main_arg3) (V m c main_arg4) (V m c main_v3) (V m c main_arg6) r f
      = Cert.GateUpRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r f) :=
  (congrArg₂ gated (pre_eq m c r _) (pre_eq m c r _)).trans (Cert.GateUpRefIdeal.Tile.h_at _ _ _ _ _ _ _ r f).symm

/-- Its projection likewise. -/
theorem ha_eq (r : Fin 4096) (j : Fin 64) :
    acc (fun t => part (V m c main_arg0) (V m c main_arg1) (V m c main_v1) (V m c main_arg3) (V m c main_arg4) (V m c main_v3) (V m c main_arg6) (V m c main_arg7) t) 32 r j * quarter
      = Cert.GateUpRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r j) := by
  refine Eq.trans (congrArg (fun a : EReal => a * quarter) (acc_eq _ (fun f => hval (V m c main_arg0) (V m c main_arg1) (V m c main_v1) (V m c main_arg3) (V m c main_arg4) (V m c main_v3) (V m c main_arg6) r f * (show EReal from (V m c main_arg7 : Vec Ideal S16384x64 .bf16) (ix2 f j))) r j fun q => ?_)) ?_
  · have hr : r.val < 4096 := r.isLt
    have hq : (pt (8 * q.val + r.val / 512)).val = 8 * q.val + r.val / 512 := by
      show (8 * q.val + r.val / 512) % 256 = _; omega
    refine (part_at _ _ _ _ _ _ _ _ (pt (8 * q.val + r.val / 512)) (loc r) j r (by
      rw [hq]; show r.val = (8 * q.val + r.val / 512) % 8 * 512 + r.val % 512; omega)).trans (Finset.sum_congr rfl fun f _ => ?_)
    have hf : (⟨(pt (8 * q.val + r.val / 512)).val / 8 * 512 + f.val, by rw [hq]; omega⟩ : Fin 16384) = ⟨q.val * 512 + f.val, by omega⟩ :=
      Fin.ext (by show (pt (8 * q.val + r.val / 512)).val / 8 * 512 + f.val = _; rw [hq]; show _ = q.val * 512 + f.val; omega)
    exact congrArg (fun f => hval (V m c main_arg0) (V m c main_arg1) (V m c main_v1) (V m c main_arg3) (V m c main_arg4) (V m c main_v3) (V m c main_arg6) r f * (show EReal from (V m c main_arg7 : Vec Ideal S16384x64 .bf16) (ix2 f j))) hf
  · refine Eq.trans (congrArg (fun a : EReal => a * quarter) (Finset.sum_congr rfl fun f _ =>
      congrArg₂ (fun a b : EReal => a * b) (h_eq m c r f) (congrFun (V_main_arg7 m c) _))) (Cert.GateUpRefIdeal.Tile.ha_at _ _ _ _ _ _ _ _ r j).symm

end Cert.GateUpIdeal.Tile

end
-- ==== Proof.GateUpAlg.lean ====
/- The fused gate/up kernel and its reference end with equal results. -/
module

public import proofs.«01_k».proof.Proof.Gen.GateUpRefIdeal.Run
public import proofs.«01_k».proof.Defs
public import proofs.«01_k».proof.Proof.GateUpRun
public import proofs.«01_k».proof.Proof.GateUpTerm

@[expose] public section

set_option maxRecDepth 16384

noncomputable section

open Idealize.ShloMosaic Idealize.ShloMosaic.TcCoe Idealize.SL.Sem

namespace Cert.GateUpIdeal.Tile

open Cert.GateUpIdeal Cert.GateUpIdeal.Gen

variable (m : (ℓ : Loc nD τ sig) → Buf (Elt Ideal) ℓ) (c : Dev nD)

/-- The gated product the kernel leaves is the reference's term over the same arguments. -/
theorem hgated_eq : hgated m c = Cert.GateUpRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, j, rfl⟩ : ∃ (r : Fin 4096) (j : Fin 16384), i = ix2 r j := ⟨i 0, i 1, eq_ix2 i⟩
  exact h_eq m c r j

/-- The projection it leaves likewise. -/
theorem haout_eq : haout m c = Cert.GateUpRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨r, j, rfl⟩ : ∃ (r : Fin 4096) (j : Fin 64), i = ix2 r j := ⟨i 0, i 1, @eq_ix2 4096 64 i⟩
  exact ha_eq m c r j

end Cert.GateUpIdeal.Tile

/-- The fused gate/up kernel and its reference end with equal results. -/
theorem Cert.Proof.algebraic_gate_up : Cert.algebraic_GateUpIdeal_GateUpRefIdeal := by
  intro m g m' g' _ hagree
  refine ⟨fun c => Cert.GateUpIdeal.Tile.hgated m c, fun c => Cert.GateUpIdeal.Tile.haout m c, Cert.GateUpIdeal.Tile.run_values m g, ?_⟩
  refine (θ_run _ _ _).mono (fun r h c => ⟨(h c).1.trans ?_, (h c).2.1.trans ?_, (h c).2.2⟩) (Cert.GateUpRefIdeal.Value.run m' g')
  · refine (Cert.GateUpRefIdeal.Read.val_main_v37_eq _ _).trans ?_
    obtain ⟨a0, a1, a2, a3, a4, a5, a6, a7⟩ := hagree c
    refine Eq.trans ?_ (Cert.GateUpIdeal.Tile.hgated_eq m c).symm
    rw [a0, a1, a2, a3, a4, a5, a6]
  · refine (Cert.GateUpRefIdeal.Read.val_main_v41_eq _ _).trans ?_
    obtain ⟨a0, a1, a2, a3, a4, a5, a6, a7⟩ := hagree c
    refine Eq.trans ?_ (Cert.GateUpIdeal.Tile.haout_eq m c).symm
    rw [a0, a1, a2, a3, a4, a5, a6, a7]

end
-- ==== Proof.lean ====
module

public import proofs.«01_k».proof.Defs
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepIdeal.Value
public import proofs.«01_k».proof.Proof.Gen.DownIdeal.Value
public import proofs.«01_k».proof.Proof.Gen.PrepRefIdeal.Run
public import proofs.«01_k».proof.Proof.Gen.PrepRefIdeal.Read
public import proofs.«01_k».proof.Proof.Gen.DownRefIdeal.Run
public import proofs.«01_k».proof.Proof.Gen.DownRefIdeal.Read
public import proofs.«01_k».proof.Proof.Gen.GateUp
public import proofs.«01_k».proof.Proof.Gen.GateUp.Skeleton
public import proofs.«01_k».proof.Proof.Gen.GateUp.Loops
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Loops
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal.Run
public import proofs.«01_k».proof.Proof.Gen.GateUpRefIdeal.Read
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.PrepAlg
public import proofs.«01_k».proof.Proof.DownAlg
public import proofs.«01_k».proof.Proof.GateUpFrame
public import proofs.«01_k».proof.Proof.GateUpAlg
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Prep

/-- The reference of the preparation is host operations only: its arguments end unchanged and nothing signals. -/
theorem quiescent_prep_ref : Cert.quiescent_PrepRefIdeal := by
  intro m g _
  hlo_run
  · exact fun _ => by repeat' constructor
  · exact funext fun s => by rcases s with ⟨_, (⟨i⟩ | ⟨i⟩)⟩ <;> exact i.elim0

/-- The reference of the gate and up projections, likewise. -/
theorem quiescent_gate_up_ref : Cert.quiescent_GateUpRefIdeal := by
  intro m g _
  hlo_run
  · exact fun _ => by repeat' constructor
  · exact funext fun s => by rcases s with ⟨_, (⟨i⟩ | ⟨i⟩)⟩ <;> exact i.elim0

/-- The reference of the down projection, likewise. -/
theorem quiescent_down_ref : Cert.quiescent_DownRefIdeal := by
  intro m g _
  hlo_run
  · exact fun _ => by repeat' constructor
  · exact funext fun s => by rcases s with ⟨_, (⟨i⟩ | ⟨i⟩)⟩ <;> exact i.elim0

/-- The rewrites that take `GateUp` to `GateUpIdeal` are the library's. -/
theorem preserves_gate_up : Cert.preserves_GateUp_GateUpIdeal :=
  ⟨IdealRules.bf16_pair.bufferStatement _ _, IdealRules.bf16_pair.halfStatement _,
    IdealRules.bf16_pair.statement _ _, IdealRules.bf16_pair.statement _ _,
    IdealRules.bf16_pair.halfStatement _, IdealRules.bf16_pair.statement _ _,
    IdealRules.bf16_pair.statement _ _⟩

/-- The rewrites that take `Down` to `DownIdeal` are the library's. -/
theorem preserves_down : Cert.preserves_Down_DownIdeal :=
  ⟨IdealRules.bf16_pair.bufferStatement _ _, IdealRules.bf16_pair.halfStatement _,
    IdealRules.bf16_pair.statement _ _, IdealRules.bf16_pair.statement _ _,
    IdealRules.bf16_pair.halfStatement _, IdealRules.bf16_pair.statement _ _,
    IdealRules.bf16_pair.statement _ _⟩

theorem claim : Cert.Claim :=
  ⟨Cert.Prep.Gen.facts, Cert.PrepIdeal.Gen.facts, Cert.PrepRefIdeal.Gen.facts, Cert.GateUp.Gen.facts,
    Cert.GateUpIdeal.Gen.facts, Cert.GateUpRefIdeal.Gen.facts, Cert.Down.Gen.facts,
    Cert.DownIdeal.Gen.facts, Cert.DownRefIdeal.Gen.facts,
    fun m g _ => Cert.Prep.Gen.frame m g, fun m g _ => Cert.PrepIdeal.Gen.frame m g, quiescent_prep_ref,
    fun m g _ => Cert.GateUp.Gen.frame m g, fun m g _ => Cert.GateUpIdeal.Tile.frame m g, quiescent_gate_up_ref,
    fun m g _ => Cert.Down.Gen.frame m g, fun m g _ => Cert.DownIdeal.Gen.frame m g, quiescent_down_ref,
    trivial, algebraic_prep, preserves_gate_up, algebraic_gate_up, preserves_down, algebraic_down⟩

end Cert.Proof

end
